-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gamma [hPre_finite_gamma : Cert.Pre_finite_gamma.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gamma [hPre_finite_gamma : Cert.Pre_finite_gamma.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gamma [hKernelIdeal : Cert.KernelIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gamma m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gamma [hReferenceIdeal : Cert.ReferenceIdeal.Facts] [hPre_finite_gamma : Cert.Pre_finite_gamma.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gamma m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_gamma [hKernelIdeal : Cert.KernelIdeal.Facts] [hReferenceIdeal : Cert.ReferenceIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gamma m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gamma : Cert.Pre_finite_gamma.Facts),
    quiescent_Kernel (hKernel := hKernel)
    ∧ quiescent_KernelIdeal (hKernelIdeal := hKernelIdeal)
    ∧ quiescent_KernelIdeal_pre_finite_gamma (hKernelIdeal := hKernelIdeal) (hPre_finite_gamma := hPre_finite_gamma)
    ∧ quiescent_ReferenceIdeal (hReferenceIdeal := hReferenceIdeal)
    ∧ quiescent_ReferenceIdeal_pre_finite_gamma (hReferenceIdeal := hReferenceIdeal) (hPre_finite_gamma := hPre_finite_gamma)
    ∧ preserves_Kernel_KernelIdeal
    ∧ algebraic_KernelIdeal_ReferenceIdeal_pre_finite_gamma (hKernelIdeal := hKernelIdeal) (hReferenceIdeal := hReferenceIdeal) (hPre_finite_gamma := hPre_finite_gamma)
-- ==== Pre_finite_gamma.lean ====
abbrev S2x1536x7168 : Shape := ⟨3, ![2, 1536, 7168]⟩
abbrev S7168 : Shape := ⟨1, ![7168]⟩
abbrev S18432x7168 : Shape := ⟨2, ![18432, 7168]⟩
abbrev S18432 : Shape := ⟨1, ![18432]⟩
abbrev S_ : Shape := ⟨0, ![]⟩

class Facts : Prop where
  bitsLt_bf16_f32 : FTy.bits .bf16 < FTy.bits .f32
  bcast_S_S7168 : S_.BroadcastsInDim S7168 (![] : Fin 0 → Fin S7168.rank)

variable [Facts]

def fn {F : FTy → Type} [FloatOps F] (main_arg0 : FVec F S2x1536x7168 .bf16) (main_arg1 : FVec F S7168 .bf16) (main_arg2 : FVec F S18432x7168 .fp8e4m3) (main_arg3 : FVec F S18432 .f32) : IVec S7168 1 :=
  let main_v0 : FVec F S7168 .f32 := (extf .f32 · bitsLt_bf16_f32) main_arg1
  let main_v1 : FVec F S7168 .f32 := Host.absf main_v0
  let main_cst : FVec F S_ .f32 := constant S_ .f32 0x7F7F0000#32
  let main_v2 : FVec F S7168 .f32 := broadcastInDim S7168 ![] bcast_S_S7168 main_cst
  let main_v3 : IVec S7168 1 := cmpf .ole main_v1 main_v2
  main_v3
-- ==== Kernel.lean ====
abbrev S2x1536x7168 : Shape := ⟨3, ![2, 1536, 7168]⟩
abbrev S7168 : Shape := ⟨1, ![7168]⟩
abbrev S18432x7168 : Shape := ⟨2, ![18432, 7168]⟩
abbrev S18432 : Shape := ⟨1, ![18432]⟩
abbrev S3072x7168 : Shape := ⟨2, ![3072, 7168]⟩
abbrev S1x7168 : Shape := ⟨2, ![1, 7168]⟩
abbrev S3072x128 : Shape := ⟨2, ![3072, 128]⟩
abbrev S256x7168 : Shape := ⟨2, ![256, 7168]⟩
abbrev S256x128 : Shape := ⟨2, ![256, 128]⟩
abbrev S256 : Shape := ⟨1, ![256]⟩
abbrev S256x1 : Shape := ⟨2, ![256, 1]⟩
abbrev S1x18432 : Shape := ⟨2, ![1, 18432]⟩
abbrev S3072x18432 : Shape := ⟨2, ![3072, 18432]⟩
abbrev S1024x7168 : Shape := ⟨2, ![1024, 7168]⟩
abbrev S512x7168 : Shape := ⟨2, ![512, 7168]⟩
abbrev S1024x128 : Shape := ⟨2, ![1024, 128]⟩
abbrev S1x512 : Shape := ⟨2, ![1, 512]⟩
abbrev S1024x512 : Shape := ⟨2, ![1024, 512]⟩
abbrev S1024x1 : Shape := ⟨2, ![1024, 1]⟩
abbrev S2x1536x18432 : Shape := ⟨3, ![2, 1536, 18432]⟩
abbrev S3072x1 : Shape := ⟨2, ![3072, 1]⟩
abbrev S2x1536x1 : Shape := ⟨3, ![2, 1536, 1]⟩

abbrev nBuf : Space → Nat
  | .hbm => 14
  | .vmem => 17
  | .smem => 0
  | _ => 0

abbrev bufTy : (tb : Table) → Fin (tcTables nBuf tb) → BufTy
  | .hbm, ⟨0, _⟩ => ⟨S2x1536x7168, .bf16⟩
  | .hbm, ⟨1, _⟩ => ⟨S7168, .bf16⟩
  | .hbm, ⟨2, _⟩ => ⟨S18432x7168, .fp8e4m3⟩
  | .hbm, ⟨3, _⟩ => ⟨S18432, .f32⟩
  | .hbm, ⟨4, _⟩ => ⟨S3072x7168, .bf16⟩
  | .hbm, ⟨5, _⟩ => ⟨S1x7168, .bf16⟩
  | .hbm, ⟨6, _⟩ => ⟨S3072x7168, .fp8e5m2⟩
  | .hbm, ⟨7, _⟩ => ⟨S3072x128, .f32⟩
  | .hbm, ⟨8, _⟩ => ⟨S1x18432, .f32⟩
  | .hbm, ⟨9, _⟩ => ⟨S3072x18432, .bf16⟩
  | .hbm, ⟨10, _⟩ => ⟨S2x1536x18432, .bf16⟩
  | .hbm, ⟨11, _⟩ => ⟨S2x1536x7168, .fp8e5m2⟩
  | .hbm, ⟨12, _⟩ => ⟨S3072x1, .f32⟩
  | .hbm, ⟨13, _⟩ => ⟨S2x1536x1, .f32⟩
  | .local _ .vmem, ⟨0, _⟩ => ⟨S256x7168, .bf16⟩
  | .local _ .vmem, ⟨1, _⟩ => ⟨S256x7168, .bf16⟩
  | .local _ .vmem, ⟨2, _⟩ => ⟨S1x7168, .bf16⟩
  | .local _ .vmem, ⟨3, _⟩ => ⟨S256x7168, .fp8e5m2⟩
  | .local _ .vmem, ⟨4, _⟩ => ⟨S256x7168, .fp8e5m2⟩
  | .local _ .vmem, ⟨5, _⟩ => ⟨S256x128, .f32⟩
  | .local _ .vmem, ⟨6, _⟩ => ⟨S256x128, .f32⟩
  | .local _ .vmem, ⟨7, _⟩ => ⟨S1024x7168, .fp8e5m2⟩
  | .local _ .vmem, ⟨8, _⟩ => ⟨S1024x7168, .fp8e5m2⟩
  | .local _ .vmem, ⟨9, _⟩ => ⟨S512x7168, .fp8e4m3⟩
  | .local _ .vmem, ⟨10, _⟩ => ⟨S512x7168, .fp8e4m3⟩
  | .local _ .vmem, ⟨11, _⟩ => ⟨S1024x128, .f32⟩
  | .local _ .vmem, ⟨12, _⟩ => ⟨S1024x128, .f32⟩
  | .local _ .vmem, ⟨13, _⟩ => ⟨S1x512, .f32⟩
  | .local _ .vmem, ⟨14, _⟩ => ⟨S1x512, .f32⟩
  | .local _ .vmem, ⟨15, _⟩ => ⟨S1024x512, .bf16⟩
  | .local _ .vmem, ⟨16, _⟩ => ⟨S1024x512, .bf16⟩
  | _, _ => ⟨S2x1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![3, 36], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x7168 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x7168 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S2x1536x7168 : Shape := ⟨3, ![2, 1536, 7168]⟩
abbrev S7168 : Shape := ⟨1, ![7168]⟩
abbrev S18432x7168 : Shape := ⟨2, ![18432, 7168]⟩
abbrev S18432 : Shape := ⟨1, ![18432]⟩
abbrev S_ : Shape := ⟨0, ![]⟩
abbrev S2x1536 : Shape := ⟨2, ![2, 1536]⟩
abbrev S2x1536x1 : Shape := ⟨3, ![2, 1536, 1]⟩
abbrev S1x1x7168 : Shape := ⟨3, ![1, 1, 7168]⟩
abbrev S3072x7168 : Shape := ⟨2, ![3072, 7168]⟩
abbrev S3072x1 : Shape := ⟨2, ![3072, 1]⟩
abbrev S1x18432 : Shape := ⟨2, ![1, 18432]⟩
abbrev S3072x18432 : Shape := ⟨2, ![3072, 18432]⟩
abbrev S2x1536x18432 : Shape := ⟨3, ![2, 1536, 18432]⟩

abbrev nBuf : Space → Nat
  | .hbm => 64
  | .vmem => 6
  | .smem => 0
  | _ => 0

abbrev bufTy : (tb : Table) → Fin (tcTables nBuf tb) → BufTy
  | .hbm, ⟨0, _⟩ => ⟨S2x1536x7168, .bf16⟩
  | .hbm, ⟨1, _⟩ => ⟨S7168, .bf16⟩
  | .hbm, ⟨2, _⟩ => ⟨S18432x7168, .fp8e4m3⟩
  | .hbm, ⟨3, _⟩ => ⟨S18432, .f32⟩
  | .hbm, ⟨4, _⟩ => ⟨S2x1536x7168, .f32⟩
  | .hbm, ⟨5, _⟩ => ⟨S2x1536x7168, .f32⟩
  | .hbm, ⟨6, _⟩ => ⟨S_, .f32⟩
  | .hbm, ⟨7, _⟩ => ⟨S2x1536, .f32⟩
  | .hbm, ⟨8, _⟩ => ⟨S2x1536x1, .f32⟩
  | .hbm, ⟨9, _⟩ => ⟨S_, .f32⟩
  | .hbm, ⟨10, _⟩ => ⟨S2x1536x1, .f32⟩
  | .hbm, ⟨11, _⟩ => ⟨S2x1536x1, .f32⟩
  | .hbm, ⟨12, _⟩ => ⟨S_, .f32⟩
  | .hbm, ⟨13, _⟩ => ⟨S2x1536x1, .f32⟩
  | .hbm, ⟨14, _⟩ => ⟨S2x1536x1, .f32⟩
  | .hbm, ⟨15, _⟩ => ⟨S2x1536x1, .f32⟩
  | .hbm, ⟨16, _⟩ => ⟨S2x1536x7168, .f32⟩
  | .hbm, ⟨17, _⟩ => ⟨S2x1536x7168, .f32⟩
  | .hbm, ⟨18, _⟩ => ⟨S7168, .f32⟩
  | .hbm, ⟨19, _⟩ => ⟨S1x1x7168, .f32⟩
  | .hbm, ⟨20, _⟩ => ⟨S2x1536x7168, .f32⟩
  | .hbm, ⟨21, _⟩ => ⟨S2x1536x7168, .f32⟩
  | .hbm, ⟨22, _⟩ => ⟨S2x1536x7168, .f32⟩
  | .hbm, ⟨23, _⟩ => ⟨S_, .f32⟩
  | .hbm, ⟨24, _⟩ => ⟨S2x1536, .f32⟩
  | .hbm, ⟨25, _⟩ => ⟨S2x1536x1, .f32⟩
  | .hbm, ⟨26, _⟩ => ⟨S_, .f32⟩
  | .hbm, ⟨27, _⟩ => ⟨S2x1536x1, .f32⟩
  | .hbm, ⟨28, _⟩ => ⟨S_, .f32⟩
  | .hbm, ⟨29, _⟩ => ⟨S2x1536x1, .f32⟩
  | .hbm, ⟨30, _⟩ => ⟨S_, .f32⟩
  | .hbm, ⟨31, _⟩ => ⟨S2x1536x1, .f32⟩
  | .hbm, ⟨32, _⟩ => ⟨S2x1536x1, .f32⟩
  | .hbm, ⟨33, _⟩ => ⟨S_, .f32⟩
  | .hbm, ⟨34, _⟩ => ⟨S2x1536x1, .f32⟩
  | .hbm, ⟨35, _⟩ => ⟨S2x1536x1, .i1⟩
  | .hbm, ⟨36, _⟩ => ⟨S2x1536x1, .f32⟩
  | .hbm, ⟨37, _⟩ => ⟨S2x1536x1, .f32⟩
  | .hbm, ⟨38, _⟩ => ⟨S2x1536x1, .f32⟩
  | .hbm, ⟨39, _⟩ => ⟨S2x1536x1, .f32⟩
  | .hbm, ⟨40, _⟩ => ⟨S_, .f32⟩
  | .hbm, ⟨41, _⟩ => ⟨S2x1536x1, .f32⟩
  | .hbm, ⟨42, _⟩ => ⟨S2x1536x1, .f32⟩
  | .hbm, ⟨43, _⟩ => ⟨S2x1536x1, .f32⟩
  | .hbm, ⟨44, _⟩ => ⟨S2x1536x1, .i1⟩
  | .hbm, ⟨45, _⟩ => ⟨S2x1536x1, .f32⟩
  | .hbm, ⟨46, _⟩ => ⟨S2x1536x1, .f32⟩
  | .hbm, ⟨47, _⟩ => ⟨S2x1536x1, .f32⟩
  | .hbm, ⟨48, _⟩ => ⟨S2x1536x1, .f32⟩
  | .hbm, ⟨49, _⟩ => ⟨S2x1536x7168, .f32⟩
  | .hbm, ⟨50, _⟩ => ⟨S2x1536x7168, .f32⟩
  | .hbm, ⟨51, _⟩ => ⟨S_, .f32⟩
  | .hbm, ⟨52, _⟩ => ⟨S2x1536x7168, .f32⟩
  | .hbm, ⟨53, _⟩ => ⟨S2x1536x7168, .f32⟩
  | .hbm, ⟨54, _⟩ => ⟨S_, .f32⟩
  | .hbm, ⟨55, _⟩ => ⟨S2x1536x7168, .f32⟩
  | .hbm, ⟨56, _⟩ => ⟨S2x1536x7168, .f32⟩
  | .hbm, ⟨57, _⟩ => ⟨S3072x7168, .f32⟩
  | .hbm, ⟨58, _⟩ => ⟨S3072x1, .f32⟩
  | .hbm, ⟨59, _⟩ => ⟨S1x18432, .f32⟩
  | .hbm, ⟨60, _⟩ => ⟨S3072x18432, .bf16⟩
  | .hbm, ⟨61, _⟩ => ⟨S3072x7168, .fp8e5m2⟩
  | .hbm, ⟨62, _⟩ => ⟨S2x1536x18432, .bf16⟩
  | .hbm, ⟨63, _⟩ => ⟨S2x1536x7168, .fp8e5m2⟩
  | .local _ .vmem, ⟨0, _⟩ => ⟨S3072x7168, .f32⟩
  | .local _ .vmem, ⟨1, _⟩ => ⟨S18432x7168, .fp8e4m3⟩
  | .local _ .vmem, ⟨2, _⟩ => ⟨S3072x1, .f32⟩
  | .local _ .vmem, ⟨3, _⟩ => ⟨S1x18432, .f32⟩
  | .local _ .vmem, ⟨4, _⟩ => ⟨S3072x18432, .bf16⟩
  | .local _ .vmem, ⟨5, _⟩ => ⟨S3072x7168, .fp8e5m2⟩
  | _, _ => ⟨S2x1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45_0 : Ref sig .tc := ⟨.hbm, 60, rfl⟩
abbrev main_v45_1 : Ref sig .tc := ⟨.hbm, 61, rfl⟩
abbrev main_v46 : Ref sig .tc := ⟨.hbm, 62, rfl⟩
abbrev main_v47 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x7168 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/-
  THE KERNEL'S RUN WITH ITS RESULTS (hand-written, untrusted): every execution ends with each result buffer at the contents the fold over
  the program's segments gives it (`Gen.W5`: the reshapes, the two regions, the reshapes), and with the arguments unchanged. The launch is the
  frame's own, read at three more buffers.
-/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates with the three results at the fold's contents and the four arguments as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v5 (by decide)), h c _ (mem_uc main_v6 (by decide)), h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Proof.KernelRun

end
-- ==== Proof.KernelFold.lean ====
/-
  THE KERNEL'S BUFFERS BETWEEN ITS SEGMENTS (hand-written, untrusted): what each reshape and each region hands to the next, from the
  launch contents to the three results.
-/
module

public import proofs.«01_k».proof.Proof.Gen.KernelIdeal.Frame

@[expose] public section

set_option maxRecDepth 16384

noncomputable section

namespace Cert.Proof.KernelFold

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The quantization reads the activations as 3072 rows. -/
theorem entry_x (c : Dev nD) : V1 m ρ c main_v0
    = shapeCast S3072x7168 (m ((c.tc : Thread nD τ).loc main_arg0)) shapeCasts_S2x1536x7168_S3072x7168 := by
  show StableHlo.after hostOps0 (W0 m ρ c) (Proc.devRef .tc main_v0) = _
  simp only [hostOps0]
  after_results <;> rfl

/-- It reads the weights of the normalization as one row. -/
theorem entry_gamma (c : Dev nD) : V1 m ρ c main_v1
    = shapeCast S1x7168 (m ((c.tc : Thread nD τ).loc main_arg1)) shapeCasts_S7168_S1x7168 := by
  show StableHlo.after hostOps0 (W0 m ρ c) (Proc.devRef .tc main_v1) = _
  simp only [hostOps0]
  after_results <;> rfl

/-- The product reads the codes the quantization left. -/
theorem entry_codes (c : Dev nD) : V3 m ρ c main_v2_0 = (dat0 (V1 m ρ) c).arrAt 2 cfg0.N :=
  (W3_of m ρ c main_v2_0 (by decide)).trans (W2_arr m ρ c 2)

/-- The product reads the scales the quantization left. -/
theorem entry_scale (c : Dev nD) : V3 m ρ c main_v2_1 = (dat0 (V1 m ρ) c).arrAt 3 cfg0.N :=
  (W3_of m ρ c main_v2_1 (by decide)).trans (W2_arr m ρ c 3)

/-- The product reads the weights as launched. -/
theorem entry_w (c : Dev nD) : V3 m ρ c main_arg2 = m ((c.tc : Thread nD τ).loc main_arg2) :=
  W3_args m ρ c main_arg2 (by decide)

/-- The product reads the weights' scales as one row. -/
theorem entry_ws (c : Dev nD) : V3 m ρ c main_v3
    = shapeCast S1x18432 (m ((c.tc : Thread nD τ).loc main_arg3)) shapeCasts_S18432_S1x18432 := by
  have h : StableHlo.after hostOps1 (W2 m ρ c) (Proc.devRef .tc main_v3)
      = shapeCast S1x18432 (W2 m ρ c (Proc.devRef .tc main_arg3)) shapeCasts_S18432_S1x18432 := by
    simp only [hostOps1]
    after_results <;> rfl
  exact h.trans (by rw [W2_args m ρ c main_arg3 (by decide)])

/-- The first result is the product's array, reshaped. -/
theorem exit_y (c : Dev nD) : W5 m ρ c (Proc.devRef .tc main_v5)
    = shapeCast S2x1536x18432 ((dat1 (V3 m ρ) c).arrAt 4 cfg1.N) shapeCasts_S3072x18432_S2x1536x18432 := by
  have h : StableHlo.after hostOps2 (W4 m ρ c) (Proc.devRef .tc main_v5)
      = shapeCast S2x1536x18432 (W4 m ρ c (Proc.devRef .tc main_v4)) shapeCasts_S3072x18432_S2x1536x18432 := by
    simp only [hostOps2]
    after_results <;> rfl
  exact h.trans (congrArg (fun b => shapeCast S2x1536x18432 b shapeCasts_S3072x18432_S2x1536x18432) (W4_arr m ρ c 4))

/-- The second result is the codes' array, reshaped. -/
theorem exit_codes (c : Dev nD) : W5 m ρ c (Proc.devRef .tc main_v6)
    = shapeCast S2x1536x7168 ((dat0 (V1 m ρ) c).arrAt 2 cfg0.N) shapeCasts_S3072x7168_S2x1536x7168 := by
  have h : StableHlo.after hostOps2 (W4 m ρ c) (Proc.devRef .tc main_v6)
      = shapeCast S2x1536x7168 (W4 m ρ c (Proc.devRef .tc main_v2_0)) shapeCasts_S3072x7168_S2x1536x7168 := by
    simp only [hostOps2]
    after_results <;> rfl
  exact h.trans (congrArg (fun b => shapeCast S2x1536x7168 b shapeCasts_S3072x7168_S2x1536x7168)
    ((W4_of m ρ c main_v2_0 (by decide)).trans (entry_codes m ρ c)))

/-- The third result is the first lane of the scales' array, reshaped. -/
theorem exit_scale (c : Dev nD) : W5 m ρ c (Proc.devRef .tc main_v8)
    = shapeCast S2x1536x1 (extractStridedSlice S3072x1 ![0, 0] ((dat0 (V1 m ρ) c).arrAt 3 cfg0.N) slices_S3072x128_S3072x1_0_0)
        shapeCasts_S3072x1_S2x1536x1 := by
  have h : StableHlo.after hostOps2 (W4 m ρ c) (Proc.devRef .tc main_v8)
      = shapeCast S2x1536x1 (extractStridedSlice S3072x1 ![0, 0] (W4 m ρ c (Proc.devRef .tc main_v2_1)) slices_S3072x128_S3072x1_0_0)
          shapeCasts_S3072x1_S2x1536x1 := by
    simp only [hostOps2]
    after_results <;> rfl
  exact h.trans (congrArg (fun b => shapeCast S2x1536x1 (extractStridedSlice S3072x1 ![0, 0] b slices_S3072x128_S3072x1_0_0)
    shapeCasts_S3072x1_S2x1536x1) ((W4_of m ρ c main_v2_1 (by decide)).trans (entry_scale m ρ c)))

end Cert.Proof.KernelFold

end
-- ==== Proof.Exponent.lean ====
/-
  THE EXPONENT OF A ROW'S GREATEST MAGNITUDE (hand-written, untrusted).

  The kernel takes the exponent of `t` as a field of a word and makes the scale `2^e` and its inverse `2^-e` as words too. The
  reference takes the exponent as a logarithm rounded down and makes both by powers of two. This module states the two, number by number, and
  shows them equal for `0 ≤ t < 2^125`.
-/
module

public import Idealize.ShloMosaic.PureOps.Ideal
public import Idealize.ShloMosaic.PureOps.Ideal.Laws

@[expose] public section

noncomputable section

namespace Cert.Proof.Exponent

open Idealize.ShloMosaic

/-! ## The two spellings -/

/-- The number whose f32 word is the word `w`, seen as an exponent field, in its place. -/
def fieldValue (w : BitVec 32) : EReal := Ideal.ofBits .f32 (IntOp.shli .vector w 23#32)

/-- One step of the search for the exponent field: add `k` to the field `f` unless `t` is below the number the sum denotes. -/
def step (t : EReal) (f k : BitVec 32) : BitVec 32 :=
  Scalar.select (Ideal.cmp .olt t (fieldValue (IntOp.addi f k))) f (IntOp.addi f k)

/-- The exponent field the kernel finds: eight steps, halving. -/
def field (t : EReal) : BitVec 32 :=
  step t (step t (step t (step t (step t (step t (step t (step t 0#32 128#32) 64#32) 32#32) 16#32) 8#32) 4#32) 2#32) 1#32

/-- The kernel's exponent word: 0 for a zero field, else the field less 126. -/
def expo (t : EReal) : BitVec 32 :=
  Scalar.select (IntOp.cmpi .eq (IntOp.shli .vector (field t) 23#32) 0#32) 0#32
    (IntOp.subi (IntOp.shrsi .vector (IntOp.shli .vector (field t) 23#32) 23#32) 126#32)

/-- The kernel's scale of `t`. -/
def scaleK (t : EReal) : EReal := fieldValue (IntOp.addi (expo t) 127#32)

/-- The kernel's inverse scale of `t`. -/
def invK (t : EReal) : EReal := fieldValue (IntOp.subi 127#32 (expo t))

/-- The reference's exponent of `t`, for the row maximum `a`. -/
def expoR (a t : EReal) : EReal :=
  Scalar.select (Ideal.cmp .oeq a 0) 0
    (Scalar.select (Ideal.cmp .olt t (Ideal.ofBits .f32 0x00800000#32)) 0
      (Ideal.liftRound Int.floor (Ideal.div (Ideal.log t) (Ideal.log (Ideal.ofBits .f32 0x40000000#32)))
        + Ideal.ofBits .f32 0x3F800000#32))

/-- The reference's scale. -/
def scaleR (a t : EReal) : EReal := Ideal.pow (Ideal.ofBits .f32 0x40000000#32) (expoR a t)

/-- The reference's inverse scale. -/
def invR (a t : EReal) : EReal := Ideal.pow (Ideal.ofBits .f32 0x40000000#32) (-expoR a t)

/-! ## Words that are an exponent field alone -/

/-- A field shifted into place, as a number. -/
theorem shl_toNat {n : ℕ} (h : n ≤ 255) : (IntOp.shli .vector (BitVec.ofNat 32 n) 23#32) = BitVec.ofNat 32 (n * 2 ^ 23) := by
  have e : IntOp.shli .vector (BitVec.ofNat 32 n) 23#32 = BitVec.ofNat 32 n <<< 23 := by
    unfold IntOp.shli; rw [if_pos (by decide)]; rfl
  rw [e]
  apply BitVec.eq_of_toNat_eq
  rw [BitVec.toNat_shiftLeft, BitVec.toNat_ofNat, BitVec.toNat_ofNat, Nat.shiftLeft_eq, Nat.mod_eq_of_lt (a := n) (by omega)]

/-- The field of 255 denotes `+∞`. -/
theorem fieldValue_255 : fieldValue (BitVec.ofNat 32 255) = ⊤ := by
  unfold fieldValue
  rw [shl_toNat (by omega)]
  simp [Ideal.ofBits, Ideal.ieee]

/-- A field `n` from 1 to 254 denotes `2^(n-127)`. -/
theorem fieldValue_of {n : ℕ} (h1 : 1 ≤ n) (h2 : n ≤ 254) :
    fieldValue (BitVec.ofNat 32 n) = (((2 : ℝ) ^ ((n : ℤ) - 127) : ℝ) : EReal) := by
  unfold fieldValue
  rw [shl_toNat (by omega)]
  have hN : (BitVec.ofNat 32 (n * 2 ^ 23)).toNat = n * 2 ^ 23 := by
    rw [BitVec.toNat_ofNat, Nat.mod_eq_of_lt (by omega)]
  have hneg : ((BitVec.ofNat 32 (n * 2 ^ 23)).extractLsb' (8 + 23) 1 == 1#1) = false := by
    have : (BitVec.ofNat 32 (n * 2 ^ 23)).extractLsb' (8 + 23) 1 = 0#1 := by
      apply BitVec.eq_of_toNat_eq
      rw [BitVec.extractLsb'_toNat, hN, Nat.shiftRight_eq_div_pow]
      show n * 2 ^ 23 / 2 ^ 31 % 2 ^ 1 = 0
      omega
    rw [this]; decide
  have hex : ((BitVec.ofNat 32 (n * 2 ^ 23)).extractLsb' 23 8).toNat = n := by
    rw [BitVec.extractLsb'_toNat, hN, Nat.shiftRight_eq_div_pow]; omega
  have hfr : ((BitVec.ofNat 32 (n * 2 ^ 23)).extractLsb' 0 23).toNat = 0 := by
    rw [BitVec.extractLsb'_toNat, hN, Nat.shiftRight_eq_div_pow]; omega
  show Ideal.ieee 8 23 (BitVec.ofNat 32 (n * 2 ^ 23)) = _
  unfold Ideal.ieee
  simp only [hneg, hex, hfr]
  rw [if_neg (by omega), if_neg (by omega)]
  congr 1
  have : (2 : ℝ) ^ ((n : ℤ) - 127) = 2 ^ (23 : ℕ) * 2 ^ ((n : ℤ) - 127 - 23) := by
    rw [← zpow_natCast, ← zpow_add₀ (by norm_num)]; congr 1; push_cast; ring
  rw [this]
  norm_num

/-! ## The search -/

/-- One step on a field `n`, the sum still a field. -/
theorem step_ofNat (t : EReal) {n k : ℕ} :
    step t (BitVec.ofNat 32 n) (BitVec.ofNat 32 k)
      = BitVec.ofNat 32 (if t < fieldValue (BitVec.ofNat 32 (n + k)) then n else n + k) := by
  unfold step
  have e : IntOp.addi (BitVec.ofNat 32 n) (BitVec.ofNat 32 k) = BitVec.ofNat 32 (n + k) := by
    unfold IntOp.addi; exact (BitVec.ofNat_add n k).symm
  rw [e]
  unfold Scalar.select Ideal.cmp
  by_cases h : t < fieldValue (BitVec.ofNat 32 (n + k)) <;> simp [h]

/-- What a field is known to be after a step of width `k`: at most `256 - k`, zero or not above `t`, and `k` more is above `t`. -/
def Found (t : EReal) (k n : ℕ) : Prop :=
  n + k ≤ 256 ∧ (n = 0 ∨ fieldValue (BitVec.ofNat 32 n) ≤ t) ∧ (n + k = 256 ∨ t < fieldValue (BitVec.ofNat 32 (n + k)))

/-- A step halves the width. -/
theorem step_found {t : EReal} {k : ℕ} (f : BitVec 32) (h : ∃ n, f = BitVec.ofNat 32 n ∧ Found t (k + k) n) :
    ∃ n, step t f (BitVec.ofNat 32 k) = BitVec.ofNat 32 n ∧ Found t k n := by
  obtain ⟨n, rfl, h1, h2, h3⟩ := h
  refine ⟨_, step_ofNat t, ?_⟩
  by_cases hlt : t < fieldValue (BitVec.ofNat 32 (n + k))
  · rw [if_pos hlt]; exact ⟨by omega, h2, .inr hlt⟩
  · rw [if_neg hlt]
    refine ⟨by omega, .inr (not_lt.mp hlt), ?_⟩
    rw [show n + k + k = n + (k + k) by omega]; exact h3

/-- The search's field: the greatest whose number is not above `t`. -/
theorem field_found (t : EReal) : ∃ n, field t = BitVec.ofNat 32 n ∧ Found t 1 n := by
  unfold field
  exact step_found (k := 1) _ <| step_found (k := 2) _ <| step_found (k := 4) _ <| step_found (k := 8) _ <|
    step_found (k := 16) _ <| step_found (k := 32) _ <| step_found (k := 64) _ <| step_found (k := 128) _
      ⟨0, rfl, by omega, .inl rfl, .inl rfl⟩

/-- The exponent word of a field. -/
theorem expo_of {t : EReal} {n : ℕ} (h : field t = BitVec.ofNat 32 n) (hn : n ≤ 254) :
    expo t = if n = 0 then 0#32 else BitVec.ofNat 32 n - 126#32 := by
  unfold expo
  rw [h, shl_toNat (by omega)]
  have hN : (BitVec.ofNat 32 (n * 2 ^ 23)).toNat = n * 2 ^ 23 := by
    rw [BitVec.toNat_ofNat, Nat.mod_eq_of_lt (by omega)]
  have hz : (BitVec.ofNat 32 (n * 2 ^ 23) == 0#32) = decide (n = 0) := by
    by_cases h0 : n = 0
    · subst h0; rfl
    · rw [beq_eq_false_iff_ne.mpr, decide_eq_false h0]
      intro hc
      have := congrArg BitVec.toNat hc
      rw [hN] at this
      have h00 : (0#32).toNat = 0 := rfl
      omega
  have hs : IntOp.shrsi .vector (BitVec.ofNat 32 (n * 2 ^ 23)) 23#32 = BitVec.ofNat 32 n := by
    unfold IntOp.shrsi
    rw [if_pos (by decide)]
    have hmsb : (BitVec.ofNat 32 (n * 2 ^ 23)).msb = false := by
      rw [BitVec.msb_eq_false_iff_two_mul_lt, hN]; omega
    apply BitVec.eq_of_toNat_eq
    rw [BitVec.sshiftRight', BitVec.sshiftRight_eq_of_msb_false hmsb, BitVec.toNat_ushiftRight, hN, Nat.shiftRight_eq_div_pow,
      show (23#32).toNat = 23 from rfl, BitVec.toNat_ofNat]
    omega
  rw [hs]
  unfold Scalar.select IntOp.cmpi IntOp.subi
  simp only [hz]
  by_cases h0 : n = 0 <;> simp [h0]

/-! ## The kernel's scale -/

/-- The kernel's scale of `t` below `2^-126` is 1. -/
theorem kernel_small {t : EReal} (h : t < (((2 : ℝ) ^ (-126 : ℤ) : ℝ) : EReal)) : scaleK t = 1 ∧ invK t = 1 := by
  obtain ⟨n, hn, h1, h2, h3⟩ := field_found t
  have hz : n = 0 := by
    by_contra hne
    have h2' := h2.resolve_left hne
    by_cases h255 : n = 255
    · rw [h255, fieldValue_255] at h2'
      exact absurd (lt_of_le_of_lt h2' h) (not_lt.mpr le_top)
    · rw [fieldValue_of (by omega) (by omega)] at h2'
      have := EReal.coe_lt_coe_iff.mp (lt_of_le_of_lt h2' h)
      have h4 := (zpow_lt_zpow_iff_right₀ (by norm_num : (1 : ℝ) < 2)).mp this
      omega
  have he : expo t = 0#32 := by rw [expo_of hn (by omega), if_pos hz]
  have hv : fieldValue 127#32 = 1 := by
    have := fieldValue_of (n := 127) (by omega) (by omega)
    rw [show BitVec.ofNat 32 127 = 127#32 from rfl] at this
    rw [this]; norm_num
  constructor
  · unfold scaleK; rw [he]; exact hv
  · unfold invK; rw [he]; exact hv

/-- The kernel's scale of a `t` from `2^m` to below `2^(m+1)` is `2^(m+1)`, and its inverse `2^-(m+1)`. -/
theorem kernel_normal {r : ℝ} {m : ℤ} (hm1 : -126 ≤ m) (hm2 : m < 125) (hlo : (2 : ℝ) ^ m ≤ r) (hhi : r < (2 : ℝ) ^ (m + 1)) :
    scaleK (r : EReal) = (((2 : ℝ) ^ (m + 1) : ℝ) : EReal) ∧ invK (r : EReal) = (((2 : ℝ) ^ (-(m + 1)) : ℝ) : EReal) := by
  obtain ⟨n, hn, h1, h2, h3⟩ := field_found (r : EReal)
  have hne : n ≠ 0 := by
    rintro rfl
    rcases h3 with h3 | h3
    · omega
    rw [fieldValue_of (by omega) (by omega)] at h3
    have h3' := EReal.coe_lt_coe_iff.mp h3
    have h4 := (zpow_lt_zpow_iff_right₀ (by norm_num : (1 : ℝ) < 2)).mp (lt_of_le_of_lt hlo h3')
    omega
  have h2' := h2.resolve_left hne
  have h255 : n ≠ 255 := by
    rintro rfl
    rw [fieldValue_255] at h2'
    exact EReal.coe_ne_top r (top_le_iff.mp h2')
  rw [fieldValue_of (by omega) (by omega)] at h2'
  have h2r := EReal.coe_le_coe_iff.mp h2'
  have hle : (n : ℤ) - 127 < m + 1 :=
    (zpow_lt_zpow_iff_right₀ (by norm_num : (1 : ℝ) < 2)).mp (lt_of_le_of_lt h2r hhi)
  have h3' := h3.resolve_left (by omega)
  rw [fieldValue_of (by omega) (by omega)] at h3'
  have h3r := EReal.coe_lt_coe_iff.mp h3'
  have hge : m < ((n + 1 : ℕ) : ℤ) - 127 :=
    (zpow_lt_zpow_iff_right₀ (by norm_num : (1 : ℝ) < 2)).mp (lt_of_le_of_lt hlo h3r)
  push_cast at hge
  have hnm : (n : ℤ) = m + 127 := by omega
  have he : expo (r : EReal) = BitVec.ofNat 32 n - 126#32 := by rw [expo_of hn (by omega), if_neg hne]
  constructor
  · unfold scaleK
    have : IntOp.addi (expo (r : EReal)) 127#32 = BitVec.ofNat 32 (n + 1) := by
      rw [he]; unfold IntOp.addi
      rw [BitVec.ofNat_add]; generalize BitVec.ofNat 32 n = b
      rw [BitVec.sub_eq_add_neg, BitVec.add_assoc, show -126#32 + 127#32 = BitVec.ofNat 32 1 by decide]
    rw [this, fieldValue_of (by omega) (by omega), show ((n + 1 : ℕ) : ℤ) - 127 = m + 1 by push_cast; omega]
  · unfold invK
    have : IntOp.subi 127#32 (expo (r : EReal)) = BitVec.ofNat 32 (253 - n) := by
      rw [he]; unfold IntOp.subi
      apply BitVec.eq_of_toNat_eq
      simp only [BitVec.toNat_sub, BitVec.toNat_ofNat]
      omega
    rw [this, fieldValue_of (by omega) (by omega), show ((253 - n : ℕ) : ℤ) - 127 = -(m + 1) by omega]

/-! ## The reference's scale -/

/-- The word of 2. -/
theorem ofBits_two : Ideal.ofBits .f32 0x40000000#32 = ((2 : ℝ) : EReal) := by
  simp [Ideal.ofBits, Ideal.ieee, -EReal.coe_mul]; norm_num

/-- The word of 1. -/
theorem ofBits_one : Ideal.ofBits .f32 0x3F800000#32 = ((1 : ℝ) : EReal) := by
  simp [Ideal.ofBits, Ideal.ieee, -EReal.coe_mul]; norm_num

/-- The word of the least normal number. -/
theorem ofBits_least : Ideal.ofBits .f32 0x00800000#32 = (((2 : ℝ) ^ (-126 : ℤ) : ℝ) : EReal) :=
  fieldValue_of (n := 1) (by omega) (by omega)

/-- A power of two of an integer exponent. -/
theorem pow_int (k : ℤ) : Ideal.pow ((2 : ℝ) : EReal) ((k : ℝ) : EReal) = (((2 : ℝ) ^ k : ℝ) : EReal) := by
  rw [Ideal.pow_coe_coe]
  exact congrArg _ (Real.rpow_intCast 2 k)

/-- Powers of two at an integer exponent of the reference. -/
theorem ref_of {a t : EReal} {k : ℤ} (h : expoR a t = ((k : ℝ) : EReal)) :
    scaleR a t = (((2 : ℝ) ^ k : ℝ) : EReal) ∧ invR a t = (((2 : ℝ) ^ (-k) : ℝ) : EReal) := by
  constructor
  · unfold scaleR; rw [h, ofBits_two, pow_int]
  · unfold invR
    rw [h, ofBits_two, ← EReal.coe_neg, ← Int.cast_neg, pow_int]

/-- The reference's exponent of `t` below `2^-126` is 0. -/
theorem ref_small {a t : EReal} (h : t < (((2 : ℝ) ^ (-126 : ℤ) : ℝ) : EReal)) : expoR a t = 0 := by
  unfold expoR
  have : Ideal.cmp .olt t (Ideal.ofBits .f32 0x00800000#32) = 1#1 := by
    rw [ofBits_least]; unfold Ideal.cmp; simp only [decide_eq_true h]; rfl
  rw [this]
  unfold Scalar.select
  simp

/-- The reference's exponent of a `t` from `2^m` to below `2^(m+1)` is `m + 1`. -/
theorem ref_normal {a : EReal} {r : ℝ} {m : ℤ} (ha : a ≠ 0) (hm : -126 ≤ m) (hlo : (2 : ℝ) ^ m ≤ r) (hhi : r < (2 : ℝ) ^ (m + 1)) :
    expoR a (r : EReal) = (((m + 1 : ℤ) : ℝ) : EReal) := by
  have hr : 0 < r := lt_of_lt_of_le (zpow_pos (by norm_num) m) hlo
  unfold expoR
  have h1 : Ideal.cmp .oeq a 0 = 0#1 := by unfold Ideal.cmp; simp [ha]
  have h2 : Ideal.cmp .olt (r : EReal) (Ideal.ofBits .f32 0x00800000#32) = 0#1 := by
    rw [ofBits_least]; unfold Ideal.cmp
    have hge : (2 : ℝ) ^ (-126 : ℤ) ≤ r := le_trans (zpow_le_zpow_right₀ (by norm_num) hm) hlo
    have : ¬ ((r : EReal) < (((2 : ℝ) ^ (-126 : ℤ) : ℝ) : EReal)) := not_lt.mpr (EReal.coe_le_coe_iff.mpr hge)
    simp only [decide_eq_false this]; rfl
  have h3 : Ideal.div (Ideal.log (r : EReal)) (Ideal.log (Ideal.ofBits .f32 0x40000000#32)) = ((Real.log r / Real.log 2 : ℝ) : EReal) := by
    rw [ofBits_two, Ideal.log_coe, Ideal.log_coe, if_neg (not_le.mpr hr), if_neg (by norm_num),
      Ideal.div_coe (Real.log_pos (by norm_num)).ne', ← EReal.coe_mul]
    congr 1
    rw [mul_one_div]
  rw [h1, h2, h3, ofBits_one, Ideal.liftRound_coe]
  have h4 : Int.floor (Real.log r / Real.log 2) = m := by
    have h2 : 0 < Real.log 2 := Real.log_pos (by norm_num)
    rw [Int.floor_eq_iff]
    constructor
    · rw [le_div_iff₀ h2, ← Real.log_zpow]
      exact Real.log_le_log (zpow_pos (by norm_num) m) hlo
    · have : ((m : ℝ) + 1) = ((m + 1 : ℤ) : ℝ) := by push_cast; ring
      rw [this, div_lt_iff₀ h2, ← Real.log_zpow]
      exact Real.log_lt_log hr hhi
  rw [h4, ← EReal.coe_add]
  unfold Scalar.select
  simp

/-! ## The two are equal -/

/-- For `0 ≤ t < 2^125` the kernel's scale and inverse scale are the reference's, when a zero maximum gives a zero `t`. -/
theorem scale_eq {a t : EReal} (h0 : 0 ≤ t) (h1 : t < (((2 : ℝ) ^ (125 : ℤ) : ℝ) : EReal)) (ha : a = 0 → t = 0) :
    scaleK t = scaleR a t ∧ invK t = invR a t := by
  by_cases hs : t < (((2 : ℝ) ^ (-126 : ℤ) : ℝ) : EReal)
  · have hr := ref_of (a := a) (t := t) (k := 0) (by rw [ref_small hs]; simp)
    have hk := kernel_small hs
    rw [hk.1, hk.2, hr.1, hr.2]
    simp
  · have hs' := not_lt.mp hs
    lift t to ℝ using ⟨(lt_of_lt_of_le h1 le_top).ne, (lt_of_lt_of_le EReal.bot_lt_zero h0).ne'⟩
    have hlo := EReal.coe_le_coe_iff.mp hs'
    have hhi := EReal.coe_lt_coe_iff.mp h1
    have hpos : 0 < t := lt_of_lt_of_le (zpow_pos (by norm_num) _) hlo
    obtain ⟨m, hm1, hm2⟩ := exists_mem_Ico_zpow (x := t) (y := (2 : ℝ)) hpos (by norm_num)
    have hm3 : -126 < m + 1 := (zpow_lt_zpow_iff_right₀ (by norm_num : (1 : ℝ) < 2)).mp (lt_of_le_of_lt hlo hm2)
    have hm4 : m < 125 := (zpow_lt_zpow_iff_right₀ (by norm_num : (1 : ℝ) < 2)).mp (lt_of_le_of_lt hm1 hhi)
    have hane : a ≠ 0 := by
      intro h
      have := ha h
      rw [EReal.coe_eq_zero] at this
      exact hpos.ne' this
    have hr := ref_of (ref_normal hane (by omega) hm1 hm2)
    have hk := kernel_normal (by omega) hm4 hm1 hm2
    rw [hk.1, hk.2, hr.1, hr.2]
    exact ⟨rfl, rfl⟩

end Cert.Proof.Exponent

end
-- ==== Proof.Row.lean ====
/-
  ONE ROW (hand-written, untrusted): what both programs do to one row `x` of 7168 numbers with the weights `g`, and why the row's
  scale is the same number in both. The reason is a bound: a row divided by its root mean square has no entry beyond 128, so with every weight
  within the largest finite bf16 the greatest magnitude stays far below where a scale's exponent leaves its field.
-/
module

public import proofs.«01_k».proof.Proof.Exponent

@[expose] public section

noncomputable section

namespace Cert.Proof.Row

open Idealize.ShloMosaic Cert.Proof.Exponent

/-! ## The row functions -/

/-- The reciprocal root mean square of a row. -/
def rms (x : Fin 7168 → EReal) : EReal :=
  Ideal.rsqrt (Ideal.div (∑ k, x k * x k) (Ideal.ofBits .f32 0x45E00000#32) + Ideal.ofBits .f32 0x358637BD#32)

/-- The normalized row. -/
def norm (x g : Fin 7168 → EReal) (k : Fin 7168) : EReal := x k * rms x * g k

/-- The greatest magnitude of the normalized row. -/
def amax (x g : Fin 7168 → EReal) : EReal :=
  Finset.univ.fold max (Ideal.ofBits .f32 0xFF800000#32) fun k => max (norm x g k) (-norm x g k)

/-- The greatest magnitude in units of the largest e5m2 code. -/
def unit (x g : Fin 7168 → EReal) : EReal := amax x g * Ideal.ofBits .f32 0x37924925#32

/-- A number clamped to the range of e5m2. -/
def clamp (v : EReal) : EReal := min (Ideal.ofBits .f32 0x47600000#32) (max (Ideal.ofBits .f32 0xC7600000#32) v)

/-- The kernel's code of entry `k`. -/
def codeK (x g : Fin 7168 → EReal) (k : Fin 7168) : EReal := clamp (norm x g k * invK (unit x g))

/-- The reference's code of entry `k`. -/
def codeR (x g : Fin 7168 → EReal) (k : Fin 7168) : EReal := clamp (norm x g k * invR (amax x g) (unit x g))

/-! ## The constants -/

theorem ofBits_7168 : Ideal.ofBits .f32 0x45E00000#32 = ((7168 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨(2 ^ 23 + 407485) * 2 ^ (-43 : ℤ), by positivity, ?_⟩
  simp [Ideal.ofBits, Ideal.ieee, -EReal.coe_mul]; norm_num

theorem ofBits_unit : ∃ e : ℝ, 0 ≤ e ∧ e ≤ 1 / 32768 ∧ Ideal.ofBits .f32 0x37924925#32 = (e : EReal) := by
  refine ⟨(2 ^ 23 + 1198373) * 2 ^ (-39 : ℤ), by positivity, by norm_num, ?_⟩
  simp [Ideal.ofBits, Ideal.ieee, -EReal.coe_mul]; norm_num

theorem ofBits_bf16_max : ∃ e : ℝ, e ≤ 2 ^ 128 ∧ Ideal.ofBits .f32 0x7F7F0000#32 = (e : EReal) := by
  refine ⟨(2 ^ 23 + 8323072) * 2 ^ (104 : ℤ), by norm_num, ?_⟩
  simp [Ideal.ofBits, Ideal.ieee, -EReal.coe_mul]; norm_num

theorem ofBits_neg_inf : Ideal.ofBits .f32 0xFF800000#32 = ⊥ := by
  simp [Ideal.ofBits, Ideal.ieee]

/-! ## The bound -/

/-- A sum of real numbers, taken among the extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A square is not negative. -/
theorem sq_nonneg' (v : EReal) : 0 ≤ v * v := by
  induction v using EReal.rec with
  | bot => simp
  | top => simp
  | coe r => rw [← EReal.coe_mul]; exact EReal.coe_nonneg.mpr (mul_self_nonneg r)

/-- An entry of a row divided by its root mean square is a real number of magnitude at most 128. -/
theorem entry_bound (x : Fin 7168 → EReal) (k : Fin 7168) : ∃ u : ℝ, x k * rms x = (u : EReal) ∧ |u| ≤ 128 := by
  obtain ⟨e, he, hee⟩ := ofBits_eps
  by_cases hx : ∀ j, x j ≠ ⊤ ∧ x j ≠ ⊥
  · lift x to Fin 7168 → ℝ using hx
    have hS : (∑ j, (x j : EReal) * (x j : EReal)) = ((∑ j, x j * x j : ℝ) : EReal) := by
      simp only [← EReal.coe_mul]
      exact (coe_sum _ _).symm
    have hS0 : 0 ≤ ∑ j, x j * x j := Finset.sum_nonneg fun j _ => mul_self_nonneg (x j)
    have hk : x k * x k ≤ ∑ j, x j * x j :=
      Finset.single_le_sum (f := fun j => x j * x j) (fun j _ => mul_self_nonneg (x j)) (Finset.mem_univ k)
    generalize (∑ j, x j * x j : ℝ) = S at hS hS0 hk
    have hv : 0 < S * (1 / 7168) + e := by positivity
    refine ⟨x k * (Real.sqrt (S * (1 / 7168) + e))⁻¹, ?_, ?_⟩
    · unfold rms
      rw [hS, ofBits_7168, hee, Ideal.div_coe (by norm_num), ← EReal.coe_mul, ← EReal.coe_add, Ideal.rsqrt_coe,
        if_neg (not_lt.mpr hv.le), if_neg hv.ne', ← EReal.coe_mul]
    · have hq := Real.sqrt_pos.mpr hv
      rw [abs_mul, abs_inv, abs_of_pos hq, ← div_eq_mul_inv, div_le_iff₀ hq]
      apply abs_le_of_sq_le_sq _ (by positivity)
      rw [mul_pow, Real.sq_sqrt hv.le]
      nlinarith
  · obtain ⟨j, hj⟩ : ∃ j, x j = ⊤ ∨ x j = ⊥ := by
      by_contra hc
      exact hx fun j => ⟨fun h => hc ⟨j, .inl h⟩, fun h => hc ⟨j, .inr h⟩⟩
    have hjj : x j * x j = ⊤ := by rcases hj with h | h <;> rw [h] <;> simp
    have hS : (∑ j, x j * x j) = ⊤ := by
      apply top_le_iff.mp
      rw [← hjj]
      exact Finset.single_le_sum (f := fun j => x j * x j) (fun j _ => sq_nonneg' (x j)) (Finset.mem_univ j)
    refine ⟨0, ?_, by norm_num⟩
    unfold rms
    rw [hS, ofBits_7168, hee, Ideal.div_coe (by norm_num), EReal.top_mul_coe_of_pos (by norm_num), EReal.top_add_coe,
      Ideal.rsqrt_top, mul_zero]
    rfl

/-- An entry of the normalized row has magnitude at most `2^135`. -/
theorem norm_bound (x g : Fin 7168 → EReal) (k : Fin 7168) (hg : max (g k) (-g k) ≤ Ideal.ofBits .f32 0x7F7F0000#32) :
    max (norm x g k) (-norm x g k) ≤ (((2 : ℝ) ^ 135 : ℝ) : EReal) := by
  obtain ⟨b, hb, hbe⟩ := ofBits_bf16_max
  rw [hbe] at hg
  obtain ⟨u, hu, hub⟩ := entry_bound x k
  have hg1 : g k ≤ (b : EReal) := le_trans (le_max_left _ _) hg
  have hg2 : -g k ≤ (b : EReal) := le_trans (le_max_right _ _) hg
  have hne1 : g k ≠ ⊤ := fun h => by rw [h] at hg1; exact EReal.coe_ne_top b (top_le_iff.mp hg1)
  have hne2 : g k ≠ ⊥ := fun h => by rw [h, EReal.neg_bot] at hg2; exact EReal.coe_ne_top b (top_le_iff.mp hg2)
  obtain ⟨w, hw⟩ : ∃ w : ℝ, g k = (w : EReal) := ⟨(g k).toReal, (EReal.coe_toReal hne1 hne2).symm⟩
  rw [hw] at hg1 hg2
  rw [← EReal.coe_neg] at hg2
  have hw1 := EReal.coe_le_coe_iff.mp hg1
  have hw2 := EReal.coe_le_coe_iff.mp hg2
  have hwb : |w| ≤ 2 ^ 128 := abs_le.mpr ⟨by linarith, by linarith⟩
  have huw : |u * w| ≤ 2 ^ 135 := by
    rw [abs_mul]
    calc |u| * |w| ≤ 128 * 2 ^ 128 := mul_le_mul hub hwb (abs_nonneg w) (by norm_num)
      _ = 2 ^ 135 := by norm_num
  unfold norm
  rw [hu, hw, ← EReal.coe_mul, ← EReal.coe_neg]
  exact max_le (EReal.coe_le_coe_iff.mpr (abs_le.mp huw).2) (EReal.coe_le_coe_iff.mpr (by linarith [(abs_le.mp huw).1]))

/-- A number or its negative is not negative. -/
theorem max_neg_nonneg (v : EReal) : 0 ≤ max v (-v) := by
  rcases le_total 0 v with h | h
  · exact le_trans h (le_max_left _ _)
  · exact le_trans (EReal.neg_nonneg.mpr h) (le_max_right _ _)

/-- The greatest magnitude lies in `[0, 2^135]`. -/
theorem amax_bound (x g : Fin 7168 → EReal) (hg : ∀ k, max (g k) (-g k) ≤ Ideal.ofBits .f32 0x7F7F0000#32) :
    0 ≤ amax x g ∧ amax x g ≤ (((2 : ℝ) ^ 135 : ℝ) : EReal) := by
  unfold amax
  rw [ofBits_neg_inf]
  constructor
  · exact Finset.le_fold_max _ |>.mpr (.inr ⟨0, Finset.mem_univ _, max_neg_nonneg _⟩)
  · exact Finset.fold_max_le _ |>.mpr ⟨bot_le, fun k _ => norm_bound x g k (hg k)⟩

/-- The greatest magnitude in units lies in `[0, 2^125)`. -/
theorem unit_bound (x g : Fin 7168 → EReal) (hg : ∀ k, max (g k) (-g k) ≤ Ideal.ofBits .f32 0x7F7F0000#32) :
    0 ≤ unit x g ∧ unit x g < (((2 : ℝ) ^ (125 : ℤ) : ℝ) : EReal) := by
  obtain ⟨h0, h1⟩ := amax_bound x g hg
  obtain ⟨c, hc0, hc1, hce⟩ := ofBits_unit
  unfold unit
  generalize amax x g = a at h0 h1
  lift a to ℝ using ⟨fun h => by rw [h] at h1; exact EReal.coe_ne_top _ (top_le_iff.mp h1),
    fun h => by rw [h] at h0; exact absurd h0 (not_le.mpr EReal.bot_lt_zero)⟩
  have ha0 := EReal.coe_nonneg.mp h0
  have ha1 := EReal.coe_le_coe_iff.mp h1
  rw [hce, ← EReal.coe_mul]
  refine ⟨EReal.coe_nonneg.mpr (mul_nonneg ha0 hc0), EReal.coe_lt_coe_iff.mpr ?_⟩
  calc a * c ≤ 2 ^ 135 * (1 / 32768) := mul_le_mul ha1 hc1 hc0 (by positivity)
    _ < (2 : ℝ) ^ (125 : ℤ) := by norm_num

/-! ## The row's results are equal -/

/-- The scale of a row is the same in both programs. -/
theorem scale_row (x g : Fin 7168 → EReal) (hg : ∀ k, max (g k) (-g k) ≤ Ideal.ofBits .f32 0x7F7F0000#32) :
    scaleK (unit x g) = scaleR (amax x g) (unit x g) :=
  (scale_eq (unit_bound x g hg).1 (unit_bound x g hg).2 fun h => by unfold unit; rw [h, zero_mul]).1

/-- The codes of a row are the same in both programs. -/
theorem code_row (x g : Fin 7168 → EReal) (hg : ∀ k, max (g k) (-g k) ≤ Ideal.ofBits .f32 0x7F7F0000#32) (k : Fin 7168) :
    codeK x g k = codeR x g k := by
  unfold codeK codeR
  rw [(scale_eq (a := amax x g) (unit_bound x g hg).1 (unit_bound x g hg).2 fun h => by unfold unit; rw [h, zero_mul]).2]

end Cert.Proof.Row

end
-- ==== Proof.KernelNorm.lean ====
/-
  THE NORMALIZED BLOCK (hand-written, untrusted): 256 rows divided by their root mean squares and weighted, and each row's greatest
  magnitude, as the row functions of Proof/Row.lean, at the ideal instance.
-/
module

public import proofs.«01_k».proof.Proof.Gen.KernelIdeal.Skeleton
public import proofs.«01_k».proof.Proof.Row
public import Idealize.ShloMosaic.Lib.Pointwise

@[expose] public section

set_option maxRecDepth 16384

noncomputable section

namespace Cert.Proof.KernelNorm

open Idealize.ShloMosaic Cert.KernelIdeal Cert.KernelIdeal.Gen Cert.Proof.Exponent

/-- The normalized block, entry by entry. -/
theorem pay4_apply (x : Vec Ideal S256x7168 .bf16) (g : Vec Ideal S1x7168 .bf16) (p : Fin 256) (k : Fin 7168) :
    k0_pay4 x g (ix2 p k) = Row.norm (fun k => x (ix2 p k)) (fun k => g (ix2 0 k)) k := by
  unfold Row.norm Row.rms
  pointwise [k0_pay4]

/-- The greatest magnitude of a row, in units of the largest code. -/
theorem pay5_apply (x : Vec Ideal S256x7168 .bf16) (g : Vec Ideal S1x7168 .bf16) (p : Fin 256) :
    k0_pay5 x g (ix2 p 0) = Row.unit (fun k => x (ix2 p k)) (fun k => g (ix2 0 k)) := by
  unfold Row.unit Row.amax
  pointwise [k0_pay5]
  congr 2
  funext k
  rw [pay4_apply]
  rfl

end Cert.Proof.KernelNorm

end
-- ==== Proof.KernelTile.lean ====
/-
  WHAT ONE BLOCK COMPUTES (hand-written, untrusted): the quantization's block of 256 rows, each entry as the row functions of
  Proof/Row.lean, at the ideal instance.
-/
module

public import proofs.«01_k».proof.Proof.KernelNorm
public import Idealize.ShloMosaic.Lib.Pointwise

@[expose] public section

set_option maxRecDepth 16384

noncomputable section

namespace Cert.Proof.KernelTile

open Cert.Proof.KernelNorm Idealize.ShloMosaic Cert.KernelIdeal Cert.KernelIdeal.Gen Cert.Proof.Exponent

/-! ## The exponent -/

/-- One step of the search, on a column. -/
def stepV (t : FVec Ideal S256x1 .f32) (f : IVec S256x1 32) (k : BitVec 32) : IVec S256x1 32 :=
  select (cmpf .olt t (bitcastToFloat .f32 (shli (addi f (broadcast S256x1 k)) (broadcast S256x1 23#32)))) f
    (addi f (broadcast S256x1 k))

theorem stepV_apply (t : FVec Ideal S256x1 .f32) (f : IVec S256x1 32) (k : BitVec 32) (i : S256x1.Idx) :
    stepV t f k i = step (t i) (f i) k := rfl

/-- The exponent field of a column, in its place. -/
def bitsV (t : FVec Ideal S256x1 .f32) : IVec S256x1 32 :=
  shli (stepV t (stepV t (stepV t (stepV t (stepV t (stepV t (stepV t (stepV t (broadcast S256x1 0#32) 128#32) 64#32) 32#32) 16#32)
    8#32) 4#32) 2#32) 1#32) (broadcast S256x1 23#32)

theorem bitsV_apply (t : FVec Ideal S256x1 .f32) (i : S256x1.Idx) : bitsV t i = IntOp.shli .vector (field (t i)) 23#32 := by
  unfold bitsV field
  show IntOp.shli .vector (stepV _ _ _ i) 23#32 = _
  simp only [stepV_apply]
  rfl

/-- The kernel's search, as printed, is that column. -/
theorem pay9_eq (x : Vec Ideal S256x7168 .bf16) (g : Vec Ideal S1x7168 .bf16) :
    k0_pay9 (k0_pay5 x g) (k0_pay6 x g) (k0_pay7 x g) (k0_pay8 x g) = bitsV (k0_pay5 x g) := by
  unfold k0_pay9 k0_pay8 k0_pay7 k0_pay6 bitsV
  generalize k0_pay5 x g = t
  rfl

/-- The exponent column: the select of the kernel. -/
theorem pay1_apply (x : Vec Ideal S256x7168 .bf16) (g : Vec Ideal S1x7168 .bf16) (i : S256x1.Idx) :
    k0_pay1 (k0_pay10 (k0_pay5 x g) (k0_pay6 x g) (k0_pay7 x g) (k0_pay8 x g))
      (k0_pay11 (k0_pay5 x g) (k0_pay6 x g) (k0_pay7 x g) (k0_pay8 x g)) 0#32 i = expo (k0_pay5 x g i) := by
  unfold k0_pay1 k0_pay10 k0_pay11
  rw [pay9_eq]
  unfold expo
  rw [← bitsV_apply]
  rfl

/-! ## The block's two results -/

/-- The scale block, for any exponent column. -/
theorem pay3_apply (u : IVec S256x1 32) (v : IVec S256x1 1) (p : Fin 256) (q : Fin 128) :
    k0_pay3 (F := Ideal) v u 0#32 (ix2 p q) = fieldValue (IntOp.addi (k0_pay1 v u 0#32 (ix2 p 0)) 127#32) := by
  unfold fieldValue
  pointwise [k0_pay3]

/-- The code block, for any exponent column. -/
theorem pay2_apply (h : FVec Ideal S256x7168 .f32) (u : IVec S256x1 32) (v : IVec S256x1 1) (p : Fin 256) (k : Fin 7168) :
    k0_pay2 (F := Ideal) h v u 0#32 (ix2 p k)
      = Row.clamp (h (ix2 p k) * fieldValue (IntOp.subi 127#32 (k0_pay1 v u 0#32 (ix2 p 0)))) := by
  unfold fieldValue Row.clamp
  pointwise [k0_pay2]

/-- The scale block: every lane of a row holds the row's scale. -/
theorem scale_apply (x : Vec Ideal S256x7168 .bf16) (g : Vec Ideal S1x7168 .bf16) (p : Fin 256) (q : Fin 128) :
    k0_pay3 (F := Ideal) (k0_pay10 (k0_pay5 x g) (k0_pay6 x g) (k0_pay7 x g) (k0_pay8 x g))
      (k0_pay11 (k0_pay5 x g) (k0_pay6 x g) (k0_pay7 x g) (k0_pay8 x g)) 0#32 (ix2 p q)
      = scaleK (Row.unit (fun k => x (ix2 p k)) (fun k => g (ix2 0 k))) := by
  rw [pay3_apply, pay1_apply, pay5_apply]
  rfl

/-- The code block: the row's codes. -/
theorem code_apply (x : Vec Ideal S256x7168 .bf16) (g : Vec Ideal S1x7168 .bf16) (p : Fin 256) (k : Fin 7168) :
    k0_pay2 (k0_pay4 x g) (k0_pay10 (k0_pay5 x g) (k0_pay6 x g) (k0_pay7 x g) (k0_pay8 x g))
      (k0_pay11 (k0_pay5 x g) (k0_pay6 x g) (k0_pay7 x g) (k0_pay8 x g)) 0#32 (ix2 p k)
      = Row.codeK (fun k => x (ix2 p k)) (fun k => g (ix2 0 k)) k := by
  rw [pay2_apply, pay4_apply, pay1_apply, pay5_apply]
  rfl

end Cert.Proof.KernelTile

end
-- ==== Proof.Dot.lean ====
/-
  ONE ENTRY OF THE PRODUCT (hand-written, untrusted): a row of codes times a row of weights, summed, times the two scales.
-/
module

public import Idealize.ShloMosaic.PureOps.Ideal

@[expose] public section

noncomputable section

namespace Cert.Proof.Dot

/-- One entry of the product: the row of codes `q` times the row of weights `w`, summed, times the row's scale and the weights' scale. -/
def entry (q w : Fin 7168 → EReal) (s ws : EReal) : EReal := (∑ k, q k * w k) * s * ws

end Cert.Proof.Dot

end
-- ==== Proof.KernelProduct.lean ====
/-
  THE PRODUCT'S TILE (hand-written, untrusted): one entry of the product of 1024 rows of codes and 512 rows of weights, scaled by both
  scales, at the ideal instance.
-/
module

public import proofs.«01_k».proof.Proof.Gen.KernelIdeal.Skeleton
public import proofs.«01_k».proof.Proof.Dot
public import Idealize.ShloMosaic.Lib.Pointwise

@[expose] public section

set_option maxRecDepth 16384

noncomputable section

namespace Cert.Proof.KernelProduct

open Idealize.ShloMosaic Cert.KernelIdeal Cert.KernelIdeal.Gen

/-- One entry of the tile: the row of codes times the row of weights, summed, times the two scales. -/
theorem tile_apply (q : Vec Ideal S1024x7168 .fp8e5m2) (w : Vec Ideal S512x7168 .fp8e4m3) (s : Vec Ideal S1024x1 .f32)
    (ws : Vec Ideal S1x512 .f32) (p : Fin 1024) (n : Fin 512) :
    k1_pay1 (F := Ideal) q w s ws (ix2 p n)
      = Dot.entry (fun k => q (ix2 p k)) (fun k => w (ix2 n k)) (s (ix2 p 0)) (ws (ix2 0 n)) := by
  unfold Dot.entry
  pointwise [k1_pay1]

end Cert.Proof.KernelProduct

end
-- ==== Proof.KernelArrays.lean ====
/-
  WHAT THE ARRAYS HOLD (hand-written, untrusted): the codes' and scales' arrays after the quantization, and the product's array after
  the product, each as one function of the arrays its region reads.
-/
module

public import proofs.«01_k».proof.Proof.Gen.KernelIdeal.Frame
public import proofs.«01_k».proof.Proof.KernelTile
public import proofs.«01_k».proof.Proof.KernelProduct
public import Idealize.ShloMosaic.Lib.Pipeline.Value
public import Idealize.ShloMosaic.Lib.Pipeline.ValueKit.Basic
public import Idealize.ShloMosaic.Lib.Pipeline.ValueKit.Geometry
public import Idealize.ShloMosaic.Lib.Pipeline.ValueKit.Acc

@[expose] public section

set_option maxRecDepth 16384

noncomputable section

namespace Cert.Proof.KernelArrays

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![t.val, 0] := (by decide +kernel : ∀ t : Fin grid0.N, _)
theorem index1_0 : ∀ t : Fin cfg1.N, win1_0.index t = ![t.val / 36, 0] := (by decide +kernel : ∀ t : Fin grid1.N, _)
theorem index1_1 : ∀ t : Fin cfg1.N, win1_1.index t = ![t.val % 36, 0] := (by decide +kernel : ∀ t : Fin grid1.N, _)
theorem index1_2 : ∀ t : Fin cfg1.N, win1_2.index t = ![t.val / 36, 0] := (by decide +kernel : ∀ t : Fin grid1.N, _)
theorem index1_3 : ∀ t : Fin cfg1.N, win1_3.index t = ![0, t.val % 36] := (by decide +kernel : ∀ t : Fin grid1.N, _)
theorem index1_4 : ∀ t : Fin cfg1.N, win1_4.index t = ![t.val / 36, t.val % 36] := (by decide +kernel : ∀ t : Fin grid1.N, _)

theorem zeros2 : (![0, 0] : Fin 2 → Nat) = fun _ => 0 := by funext a; fin_cases a <;> rfl

/-- The exponent words of a block, from the whole block. -/
theorem words_eq (x : Vec Ideal S256x7168 .bf16) (g : Vec Ideal S1x7168 .bf16) :
    k0_pay16 x g = k0_pay10 (k0_pay5 x g) (k0_pay6 x g) (k0_pay7 x g) (k0_pay8 x g)
      ∧ k0_pay17 x g = k0_pay11 (k0_pay5 x g) (k0_pay6 x g) (k0_pay7 x g) (k0_pay8 x g) := by
  unfold k0_pay16 k0_pay17 k0_pay12 k0_pay13 k0_pay14 k0_pay15
  rw [View.ld_unit_zero zeros2, View.ld_unit_zero zeros2]
  exact ⟨rfl, rfl⟩

/-- The first column of a block of scales. -/
theorem column_apply (s : Vec Ideal S1024x128 .f32) (p : Fin 1024) : View.ld s r1_2 (ix2 p 0) = s (ix2 p 0) := by
  show s _ = s _
  refine congrArg s (funext fun a => Fin.ext ?_)
  fin_cases a <;> simp [r1_2, Rect.emb_apply]

/-- The codes' array after the quantization: every entry is its row's code. -/
theorem codes_arr (c : Dev nD) :
    (dat0 V c).arrAt 2 cfg0.N
      = fun i => Row.codeK (fun k => V c main_v0 (ix2 (i 0) k)) (fun k => V c main_v1 (ix2 0 k)) (i 1) := by
  refine (dat0 V c).arrAt_eq_of_covers 2 _ (by decide +kernel) fun t hf y => ?_
  blk_simp
  rw [after0_2]
  frame_out
  rw [(words_eq _ _).1, (words_eq _ _).2, eq_ix2 y]
  erw [KernelTile.code_apply]
  blk_simp [iblk0, index0_0, index0_1, index0_2]
  refine congr (congr (congrArg Row.codeK (funext fun k => congrArg (V c main_v0) ?_)) (funext fun k => congrArg (V c main_v1) ?_)) ?_
  · blk_ext [index0_0, index0_2]
  · blk_ext [index0_1]
  · refine Fin.ext ?_
    blk_simp [index0_2]

/-- The scales' array after the quantization: every lane of a row holds the row's scale. -/
theorem scale_arr (c : Dev nD) :
    (dat0 V c).arrAt 3 cfg0.N
      = fun i => Exponent.scaleK (Row.unit (fun k => V c main_v0 (ix2 (i 0) k)) (fun k => V c main_v1 (ix2 0 k))) := by
  refine (dat0 V c).arrAt_eq_of_covers 3 _ (by decide +kernel) fun t hf y => ?_
  blk_simp
  rw [after0_3]
  frame_out
  rw [(words_eq _ _).1, (words_eq _ _).2, eq_ix2 y]
  erw [KernelTile.scale_apply]
  blk_simp [iblk0, index0_0, index0_1, index0_3]
  refine congrArg Exponent.scaleK (congr (congrArg Row.unit (funext fun k => congrArg (V c main_v0) ?_))
    (funext fun k => congrArg (V c main_v1) ?_))
  · blk_ext [index0_0, index0_3]
  · blk_ext [index0_1]

/-- The product's array after the product. -/
theorem y_arr (c : Dev nD) :
    (dat1 V c).arrAt 4 cfg1.N
      = fun i => Dot.entry (fun k => V c main_v2_0 (ix2 (i 0) k)) (fun k => V c main_arg2 (ix2 (i 1) k))
          (V c main_v2_1 (ix2 (i 0) 0)) (V c main_v3 (ix2 0 (i 1))) := by
  refine (dat1 V c).arrAt_eq_of_covers 4 _ (by decide +kernel) fun t hf y => ?_
  blk_simp
  rw [after1_4]
  frame_out
  rw [eq_ix2 y]
  erw [KernelProduct.tile_apply, column_apply]
  blk_simp [iblk1, index1_0, index1_1, index1_2, index1_3, index1_4]
  refine congr (congr (congr (congrArg Dot.entry (funext fun k => congrArg (V c main_v2_0) ?_))
    (funext fun k => congrArg (V c main_arg2) ?_)) (congrArg (V c main_v2_1) ?_)) (congrArg (V c main_v3) ?_)
  · blk_ext [index1_0, index1_4]
  · blk_ext [index1_1, index1_4]
  · blk_ext [index1_2, index1_4]
  · blk_ext [index1_3, index1_4]

end Cert.Proof.KernelArrays

end
-- ==== Proof.Reshape.lean ====
/-
  THE RESHAPES (hand-written, untrusted): the activations' 2 by 1536 rows as 3072 rows, back, and a vector as one row, read at an index.
-/
module

public import Idealize.ShloMosaic.PureOps.Ideal
public import Idealize.ShloMosaic.Lib.Pointwise
public import Idealize.ShloMosaic.Lib.Pipeline.Value

@[expose] public section

noncomputable section

namespace Cert.Proof.Reshape

open Idealize.ShloMosaic

variable {α : Type} {n : Nat}

/-- The row of the flat array that holds position `s` of batch `b`. -/
def row (b : Fin 2) (s : Fin 1536) : Fin 3072 := ⟨b.val * 1536 + s.val, by omega⟩

theorem position (b : Fin 2) (s : Fin 1536) (k : Fin n) :
    ((⟨3, ![2, 1536, n]⟩ : Shape).rowMajor (ix3 b s k)).val = ((⟨2, ![3072, n]⟩ : Shape).rowMajor (ix2 (row b s) k)).val := by
  rw [Shape.rowMajor_val_two, Shape.rowMajor_val_three]
  rfl

/-- Flattening the batches: the flat row holds the batch's. -/
theorem flat_apply (x : (⟨3, ![2, 1536, n]⟩ : Shape).Idx → α) (h : (⟨3, ![2, 1536, n]⟩ : Shape).ShapeCasts ⟨2, ![3072, n]⟩)
    (b : Fin 2) (s : Fin 1536) (k : Fin n) : shapeCast ⟨2, ![3072, n]⟩ x h (ix2 (row b s) k) = x (ix3 b s k) :=
  shapeCast_apply x h _ _ (position b s k)

/-- Back: the batch's row is the flat one. -/
theorem batch_apply (y : (⟨2, ![3072, n]⟩ : Shape).Idx → α) (h : (⟨2, ![3072, n]⟩ : Shape).ShapeCasts ⟨3, ![2, 1536, n]⟩)
    (b : Fin 2) (s : Fin 1536) (k : Fin n) : shapeCast ⟨3, ![2, 1536, n]⟩ y h (ix3 b s k) = y (ix2 (row b s) k) :=
  shapeCast_apply y h _ _ (position b s k).symm

/-- A vector as one row. -/
theorem line_apply (v : (⟨1, ![n]⟩ : Shape).Idx → α) (h : (⟨1, ![n]⟩ : Shape).ShapeCasts ⟨2, ![1, n]⟩) (k : Fin n) :
    shapeCast ⟨2, ![1, n]⟩ v h (ix2 0 k) = v (ix1 k) :=
  shapeCast_apply v h _ _ (by rw [Shape.rowMajor_val_one, Shape.rowMajor_val_two]; simp)

end Cert.Proof.Reshape

end
-- ==== Proof.KernelValues.lean ====
/-
  WHAT THE KERNEL RETURNS (hand-written, untrusted): each of its three results, entry by entry, as the row functions of the arguments,
  at the ideal instance.
-/
module

public import proofs.«01_k».proof.Proof.KernelFold
public import proofs.«01_k».proof.Proof.KernelArrays
public import proofs.«01_k».proof.Proof.Reshape

@[expose] public section

set_option maxRecDepth 16384

noncomputable section

namespace Cert.Proof.KernelValues

open Idealize.ShloMosaic Idealize.ShloMosaic.TcCoe Idealize.SL.Sem Cert.KernelIdeal Cert.KernelIdeal.Gen
open Cert.Proof.KernelFold Cert.Proof.Reshape

variable (m : (ℓ : Loc nD τ sig) → Buf (Elt Ideal) ℓ) (ρ : Dev nD → PrngReg)

/-- A row of the activations. -/
abbrev argX (c : Dev nD) (b : Fin 2) (s : Fin 1536) : Fin 7168 → EReal :=
  fun k => (m ((c.tc : Thread nD τ).loc main_arg0) : S2x1536x7168.Idx → EReal) (ix3 b s k)

/-- The weights of the normalization. -/
abbrev argG (c : Dev nD) : Fin 7168 → EReal :=
  fun k => (m ((c.tc : Thread nD τ).loc main_arg1) : S7168.Idx → EReal) (ix1 k)

/-- A row of the product's weights. -/
abbrev argW (c : Dev nD) (n : Fin 18432) : Fin 7168 → EReal :=
  fun k => (m ((c.tc : Thread nD τ).loc main_arg2) : S18432x7168.Idx → EReal) (ix2 n k)

/-- The scale of a row of the product's weights. -/
abbrev argS (c : Dev nD) (n : Fin 18432) : EReal :=
  (m ((c.tc : Thread nD τ).loc main_arg3) : S18432.Idx → EReal) (ix1 n)

theorem x_row (c : Dev nD) (b : Fin 2) (s : Fin 1536) : (fun k => V1 m ρ c main_v0 (ix2 (row b s) k)) = argX m c b s := by
  funext k
  rw [entry_x]
  exact flat_apply _ _ b s k

theorem g_row (c : Dev nD) : (fun k => V1 m ρ c main_v1 (ix2 0 k)) = argG m c := by
  funext k
  rw [entry_gamma]
  exact line_apply _ _ k

/-- The quantization's codes, by flat row. -/
theorem codes_row (c : Dev nD) (b : Fin 2) (s : Fin 1536) (k : Fin 7168) :
    (dat0 (V1 m ρ) c).arrAt 2 cfg0.N (ix2 (row b s) k) = Row.codeK (argX m c b s) (argG m c) k := by
  rw [KernelArrays.codes_arr, ← x_row m ρ c b s, ← g_row m ρ c]
  rfl

/-- The quantization's scales, by flat row. -/
theorem scale_row (c : Dev nD) (b : Fin 2) (s : Fin 1536) (q : Fin 128) :
    (dat0 (V1 m ρ) c).arrAt 3 cfg0.N (ix2 (row b s) q) = Exponent.scaleK (Row.unit (argX m c b s) (argG m c)) := by
  rw [KernelArrays.scale_arr, ← x_row m ρ c b s, ← g_row m ρ c]
  rfl

/-- The product, by flat row. -/
theorem y_row (c : Dev nD) (b : Fin 2) (s : Fin 1536) (n : Fin 18432) :
    (dat1 (V3 m ρ) c).arrAt 4 cfg1.N (ix2 (row b s) n)
      = Dot.entry (fun k => Row.codeK (argX m c b s) (argG m c) k) (argW m c n)
          (Exponent.scaleK (Row.unit (argX m c b s) (argG m c))) (argS m c n) := by
  rw [KernelArrays.y_arr, entry_codes, entry_scale, entry_w, entry_ws]
  refine congr (congr (congr (congrArg Dot.entry (funext fun k => ?_)) rfl) ?_) ?_
  · exact codes_row m ρ c b s k
  · exact scale_row m ρ c b s 0
  · exact line_apply _ _ n

/-- The kernel's codes. -/
theorem codes_apply (c : Dev nD) (b : Fin 2) (s : Fin 1536) (k : Fin 7168) :
    (W5 m ρ c (Proc.devRef .tc main_v6) : S2x1536x7168.Idx → EReal) (ix3 b s k) = Row.codeK (argX m c b s) (argG m c) k := by
  rw [exit_codes]
  exact (batch_apply _ _ b s k).trans (codes_row m ρ c b s k)

/-- The kernel's scales. -/
theorem scale_apply (c : Dev nD) (b : Fin 2) (s : Fin 1536) :
    (W5 m ρ c (Proc.devRef .tc main_v8) : S2x1536x1.Idx → EReal) (ix3 b s 0)
      = Exponent.scaleK (Row.unit (argX m c b s) (argG m c)) := by
  rw [exit_scale]
  refine (batch_apply _ _ b s 0).trans (Eq.trans ?_ (scale_row m ρ c b s 0))
  pointwise []

/-- The kernel's product. -/
theorem y_apply (c : Dev nD) (b : Fin 2) (s : Fin 1536) (n : Fin 18432) :
    (W5 m ρ c (Proc.devRef .tc main_v5) : S2x1536x18432.Idx → EReal) (ix3 b s n)
      = Dot.entry (fun k => Row.codeK (argX m c b s) (argG m c) k) (argW m c n)
          (Exponent.scaleK (Row.unit (argX m c b s) (argG m c))) (argS m c n) := by
  rw [exit_y]
  exact (batch_apply _ _ b s n).trans (y_row m ρ c b s n)

end Cert.Proof.KernelValues

end
-- ==== Proof.RefArrays.lean ====
/-
  WHAT THE REFERENCE'S PRODUCT LEAVES (hand-written, untrusted): the product's array and the codes' array, each as one function of the
  buffers the product reads, at the ideal instance.
-/
module

public import proofs.«01_k».proof.Proof.Gen.ReferenceIdeal.Run
public import proofs.«01_k».proof.Proof.Dot
public import Idealize.ShloMosaic.Lib.Pointwise
public import Idealize.ShloMosaic.Lib.Pipeline.Value
public import Idealize.ShloMosaic.Lib.Pipeline.ValueKit.Basic
public import Idealize.ShloMosaic.Lib.Pipeline.ValueKit.Geometry
public import Idealize.ShloMosaic.Lib.Pipeline.ValueKit.Acc

@[expose] public section

set_option maxRecDepth 16384

noncomputable section

namespace Cert.Proof.RefArrays

open Idealize.ShloMosaic Idealize.ShloMosaic.TcCoe Idealize.SL.Sem Cert.ReferenceIdeal Cert.ReferenceIdeal.Gen
open Idealize.ShloMosaic.Pipeline (Dat)

/-- One entry of the reference's product: the row of codes times the row of weights, summed, times the two scales. -/
theorem product_apply (q : Vec Ideal S3072x7168 .f32) (w : Vec Ideal S18432x7168 .fp8e4m3) (s : Vec Ideal S3072x1 .f32)
    (ws : Vec Ideal S1x18432 .f32) (p : Fin 3072) (n : Fin 18432) :
    k0_pay2 (F := Ideal) q w s ws (ix2 p n)
      = Dot.entry (fun k => q (ix2 p k)) (fun k => w (ix2 n k)) (s (ix2 p 0)) (ws (ix2 0 n)) := by
  unfold Dot.entry
  pointwise [k0_pay2, k0_pay1]

/-- The reference's codes, entry by entry. -/
theorem codes_apply (q : Vec Ideal S3072x7168 .f32) (p : Fin 3072) (n : Fin 7168) :
    k0_pay1 (F := Ideal) q (ix2 p n) = q (ix2 p n) := by
  pointwise [k0_pay1]

variable (m : (ℓ : Loc nD τ sig) → Buf (Elt Ideal) ℓ)

/-- The one point of the grid. -/
abbrev t₀ : Fin cfg0.N := ⟨0, by decide⟩

theorem zero_0 : (fun a => (win0_0.index t₀) a * main_v42.ty.shape.size a) = fun _ => 0 :=
  funext fun a => by fin_cases a <;> decide

theorem zero_1 : (fun a => (win0_1.index t₀) a * main_arg2.ty.shape.size a) = fun _ => 0 :=
  funext fun a => by fin_cases a <;> decide

theorem zero_2 : (fun a => (win0_2.index t₀) a * main_v43.ty.shape.size a) = fun _ => 0 :=
  funext fun a => by fin_cases a <;> decide

theorem zero_3 : (fun a => (win0_3.index t₀) a * main_v44.ty.shape.size a) = fun _ => 0 :=
  funext fun a => by fin_cases a <;> decide

theorem zero_4 : (fun a => (win0_4.index t₀) a * main_v45_0.ty.shape.size a) = fun _ => 0 :=
  funext fun a => by fin_cases a <;> decide

theorem zero_5 : (fun a => (win0_5.index t₀) a * main_v45_1.ty.shape.size a) = fun _ => 0 :=
  funext fun a => by fin_cases a <;> decide

theorem block_0 (c : Dev nD) : iblk m c 0 t₀ = V m c main_v42 := by
  unfold iblk
  exact Memref.read_access_unit_zero (Elt Ideal) main_v42 zero_0 (fun a => by fin_cases a <;> decide) _

theorem block_1 (c : Dev nD) : iblk m c 1 t₀ = V m c main_arg2 := by
  unfold iblk
  exact Memref.read_access_unit_zero (Elt Ideal) main_arg2 zero_1 (fun a => by fin_cases a <;> decide) _

theorem block_2 (c : Dev nD) : iblk m c 2 t₀ = V m c main_v43 := by
  unfold iblk
  exact Memref.read_access_unit_zero (Elt Ideal) main_v43 zero_2 (fun a => by fin_cases a <;> decide) _

theorem block_3 (c : Dev nD) : iblk m c 3 t₀ = V m c main_v44 := by
  unfold iblk
  exact Memref.read_access_unit_zero (Elt Ideal) main_v44 zero_3 (fun a => by fin_cases a <;> decide) _

/-- The body's loads read the whole buffers and its store leaves its payload. -/
theorem out_4 (x0 : Vec Ideal S3072x7168 .f32) (x1 : Vec Ideal S18432x7168 .fp8e4m3) (x2 : Vec Ideal S3072x1 .f32)
    (x3 : Vec Ideal S1x18432 .f32) : out0_4 x0 x1 x2 x3 = k0_pay2 (F := Ideal) x0 x1 x2 x3 := by
  have hz : (![0, 0] : Fin S3072x18432.rank → Nat) = fun _ => 0 := funext fun a => by fin_cases a <;> rfl
  have hz0 : (![0, 0] : Fin S3072x7168.rank → Nat) = fun _ => 0 := funext fun a => by fin_cases a <;> rfl
  have hz1 : (![0, 0] : Fin S18432x7168.rank → Nat) = fun _ => 0 := funext fun a => by fin_cases a <;> rfl
  have hz2 : (![0, 0] : Fin S3072x1.rank → Nat) = fun _ => 0 := funext fun a => by fin_cases a <;> rfl
  have hz3 : (![0, 0] : Fin S1x18432.rank → Nat) = fun _ => 0 := funext fun a => by fin_cases a <;> rfl
  unfold out0_4
  rw [View.canon_unit_zero hz, View.ld_unit_zero hz0, View.ld_unit_zero hz1, View.ld_unit_zero hz2, View.ld_unit_zero hz3]

/-- The one write-back of the array. -/
theorem final_4 (c : Dev nD) :
    ((cfg0.win (4 : Fin 6)).blk t₀).view.read (Elt Ideal) ((dats (F := Ideal) m 0 c).arrAt (4 : Fin 6) cfg0.N)
      = (dats (F := Ideal) m 0 c).flushed (4 : Fin 6) t₀ := by
  rw [show cfg0.N = (t₀ : Fin cfg0.N).val + 1 from rfl, (dats (F := Ideal) m 0 c).arrAt_succ (4 : Fin 6) t₀]
  rw [show (cfg0.win (4 : Fin 6)).flush t₀ = true from by decide, if_pos rfl]
  exact View.read_write_univ _ _

/-- The array is the body's value at the buffers it reads. -/
theorem whole_4 (c : Dev nD) :
    Value.reg_main_v45_0 m c = k0_pay2 (F := Ideal) (V m c main_v42) (V m c main_arg2) (V m c main_v43) (V m c main_v44) := by
  have ho := final_4 m c
  have hr := fun f => Memref.read_access_unit_zero (Elt Ideal) main_v45_0 zero_4 (fun a => by fin_cases a <;> decide) f
  rw [hr] at ho
  refine ho.trans ?_
  show (cfg0.win (4 : Fin 6)).cut _ ((dats (F := Ideal) m 0 c).after 4 t₀) = _
  rw [after0_4, out_4, block_0, block_1, block_2, block_3]
  rfl

/-- The body's loads read the whole buffers and its store leaves its payload. -/
theorem out_5 (x0 : Vec Ideal S3072x7168 .f32) (x1 : Vec Ideal S18432x7168 .fp8e4m3) (x2 : Vec Ideal S3072x1 .f32)
    (x3 : Vec Ideal S1x18432 .f32) : out0_5 x0 x1 x2 x3 = k0_pay1 (F := Ideal) x0 := by
  have hz : (![0, 0] : Fin S3072x7168.rank → Nat) = fun _ => 0 := funext fun a => by fin_cases a <;> rfl
  have hz0 : (![0, 0] : Fin S3072x7168.rank → Nat) = fun _ => 0 := funext fun a => by fin_cases a <;> rfl
  have hz1 : (![0, 0] : Fin S18432x7168.rank → Nat) = fun _ => 0 := funext fun a => by fin_cases a <;> rfl
  have hz2 : (![0, 0] : Fin S3072x1.rank → Nat) = fun _ => 0 := funext fun a => by fin_cases a <;> rfl
  have hz3 : (![0, 0] : Fin S1x18432.rank → Nat) = fun _ => 0 := funext fun a => by fin_cases a <;> rfl
  unfold out0_5
  rw [View.canon_unit_zero hz, View.ld_unit_zero hz0]

/-- The one write-back of the array. -/
theorem final_5 (c : Dev nD) :
    ((cfg0.win (5 : Fin 6)).blk t₀).view.read (Elt Ideal) ((dats (F := Ideal) m 0 c).arrAt (5 : Fin 6) cfg0.N)
      = (dats (F := Ideal) m 0 c).flushed (5 : Fin 6) t₀ := by
  rw [show cfg0.N = (t₀ : Fin cfg0.N).val + 1 from rfl, (dats (F := Ideal) m 0 c).arrAt_succ (5 : Fin 6) t₀]
  rw [show (cfg0.win (5 : Fin 6)).flush t₀ = true from by decide, if_pos rfl]
  exact View.read_write_univ _ _

/-- The array is the body's value at the buffers it reads. -/
theorem whole_5 (c : Dev nD) :
    Value.reg_main_v45_1 m c = k0_pay1 (F := Ideal) (V m c main_v42) := by
  have ho := final_5 m c
  have hr := fun f => Memref.read_access_unit_zero (Elt Ideal) main_v45_1 zero_5 (fun a => by fin_cases a <;> decide) f
  rw [hr] at ho
  refine ho.trans ?_
  show (cfg0.win (5 : Fin 6)).cut _ ((dats (F := Ideal) m 0 c).after 5 t₀) = _
  rw [after0_5, out_5, block_0]
  rfl

/-- The reference's product, entry by entry. -/
theorem y_arr (c : Dev nD) (p : Fin 3072) (n : Fin 18432) :
    Value.reg_main_v45_0 m c (ix2 p n)
      = Dot.entry (fun k => V m c main_v42 (ix2 p k)) (fun k => V m c main_arg2 (ix2 n k))
          (V m c main_v43 (ix2 p 0)) (V m c main_v44 (ix2 0 n)) := by
  rw [whole_4]
  exact product_apply _ _ _ _ p n

/-- The reference's codes, entry by entry: the host's, rounded to fp8 (the identity at the ideal instance). -/
theorem codes_arr (c : Dev nD) (p : Fin 3072) (k : Fin 7168) :
    Value.reg_main_v45_1 m c (ix2 p k) = V m c main_v42 (ix2 p k) := by
  rw [whole_5]
  exact codes_apply _ p k

end Cert.Proof.RefArrays

end
-- ==== Proof.RefHost.lean ====
/-
  THE REFERENCE'S HOST VALUES (hand-written, untrusted): the normalized rows, their greatest magnitudes, the exponents, and what the host
  operations before the reference's product leave in the buffers the product reads, as composed terms of the arguments.
-/
module

public import proofs.«01_k».proof.Proof.Gen.ReferenceIdeal.Run

@[expose] public section

set_option maxRecDepth 16384

noncomputable section

namespace Cert.Proof.RefHost

open Cert.ReferenceIdeal Cert.ReferenceIdeal.Gen Idealize.ShloMosaic Idealize.ShloMosaic.TcCoe Idealize.SL.Sem Idealize.ShloMosaic.StableHlo

variable {F : FTy → Type} [FloatOps F]

/-- A number on every row. -/
def splat (b : BitVec 32) : FVec F S2x1536x1 .f32 := broadcastInDim S2x1536x1 ![] bcast_S_S2x1536x1 (constant S_ .f32 b)

/-- The normalized activations. -/
def refH (x : FVec F S2x1536x7168 .bf16) (g : FVec F S7168 .bf16) : FVec F S2x1536x7168 .f32 :=
  mulf (mulf (extf .f32 x bitsLt_bf16_f32) (broadcastInDim S2x1536x7168 ![0, 1, 2] bcast_S2x1536x1_S2x1536x7168_0_1_2 (Host.rsqrt (addf (Host.divf (broadcastInDim S2x1536x1 ![0, 1] bcast_S2x1536_S2x1536x1_0_1 (Host.reduceAdd (mulf (extf .f32 x bitsLt_bf16_f32) (extf .f32 x bitsLt_bf16_f32)) (constant S_ .f32 0x00000000#32) reducesTo_S2x1536x7168_S2x1536_d2 h_S_)) (splat 0x45E00000#32)) (splat 0x358637BD#32))))) (broadcastInDim S2x1536x7168 ![0, 1, 2] bcast_S1x1x7168_S2x1536x7168_0_1_2 (broadcastInDim S1x1x7168 ![2] bcast_S7168_S1x1x7168_2 (extf .f32 g bitsLt_bf16_f32)))

/-- The greatest magnitude of each row of `h`. -/
def refMax (h : FVec F S2x1536x7168 .f32) : FVec F S2x1536x1 .f32 :=
  broadcastInDim S2x1536x1 ![0, 1] bcast_S2x1536_S2x1536x1_0_1 (Host.reduce FloatOps.maximumf (Host.absf h) (constant S_ .f32 0xFF800000#32) reducesTo_S2x1536x7168_S2x1536_d2 h_S_)

/-- The exponent of each row whose greatest magnitude is `a`. -/
def refE (a : FVec F S2x1536x1 .f32) : FVec F S2x1536x1 .f32 :=
  select (cmpf .oeq a (splat 0x00000000#32)) (splat 0x00000000#32)
    (select (cmpf .olt (mulf a (splat 0x37924925#32)) (splat 0x00800000#32)) (splat 0x00000000#32)
      (addf (Host.floor (Host.divf (Host.log (mulf a (splat 0x37924925#32))) (Host.log (splat 0x40000000#32)))) (splat 0x3F800000#32)))

/-- The scale of each row. -/
def refScale (e : FVec F S2x1536x1 .f32) : FVec F S2x1536x1 .f32 := Host.powf (splat 0x40000000#32) e

/-- The codes before their rounding. -/
def refCodes (h : FVec F S2x1536x7168 .f32) (e : FVec F S2x1536x1 .f32) : FVec F S2x1536x7168 .f32 :=
  minimumf (maximumf (mulf h (broadcastInDim S2x1536x7168 ![0, 1, 2] bcast_S2x1536x1_S2x1536x7168_0_1_2 (Host.powf (splat 0x40000000#32) (Host.negf e))))
      (broadcastInDim S2x1536x7168 ![] bcast_S_S2x1536x7168 (constant S_ .f32 0xC7600000#32)))
    (broadcastInDim S2x1536x7168 ![] bcast_S_S2x1536x7168 (constant S_ .f32 0x47600000#32))

variable (m : (ℓ : Loc nD τ sig) → Buf (Elt F) ℓ)

/-- The exponents of the launched arguments. -/
abbrev argE (c : Dev nD) : FVec F S2x1536x1 .f32 :=
  refE (refMax (refH (m ((c.tc : Thread nD τ).loc main_arg0)) (m ((c.tc : Thread nD τ).loc main_arg1))))

set_option maxHeartbeats 4000000 in
/-- The product reads the codes, as 3072 rows. -/
theorem entry_codes (c : Dev nD) : V m c main_v42
    = shapeCast S3072x7168 (refCodes (refH (m ((c.tc : Thread nD τ).loc main_arg0)) (m ((c.tc : Thread nD τ).loc main_arg1))) (argE m c))
        shapeCasts_S2x1536x7168_S3072x7168 := by
  show Gen.V0 m c (Proc.devRef .tc main_v42) = _
  simp only [Gen.V0, Gen.hostOps0, Gen.hostOps0_1, Gen.hostOps0_2, Gen.hostOps0_3, Gen.hostOps0_4, TRef.ternary, TRef.toBuf, TRef.ofBuf, cast_eq, List.flatten_cons, List.flatten_nil, List.append_nil, List.cons_append, List.nil_append]
  after_results_simp <;> rfl

set_option maxHeartbeats 4000000 in
/-- The product reads the scales, as 3072 rows. -/
theorem entry_scale (c : Dev nD) : V m c main_v43
    = shapeCast S3072x1 (refScale (argE m c)) shapeCasts_S2x1536x1_S3072x1 := by
  show Gen.V0 m c (Proc.devRef .tc main_v43) = _
  simp only [Gen.V0, Gen.hostOps0, Gen.hostOps0_1, Gen.hostOps0_2, Gen.hostOps0_3, Gen.hostOps0_4, TRef.ternary, TRef.toBuf, TRef.ofBuf, cast_eq, List.flatten_cons, List.flatten_nil, List.append_nil, List.cons_append, List.nil_append]
  after_results_simp <;> rfl

set_option maxHeartbeats 4000000 in
/-- The product reads the weights' scales as one row. -/
theorem entry_ws (c : Dev nD) : V m c main_v44
    = shapeCast S1x18432 (m ((c.tc : Thread nD τ).loc main_arg3)) shapeCasts_S18432_S1x18432 := by
  show Gen.V0 m c (Proc.devRef .tc main_v44) = _
  simp only [Gen.V0, Gen.hostOps0, Gen.hostOps0_1, Gen.hostOps0_2, Gen.hostOps0_3, Gen.hostOps0_4, TRef.ternary, TRef.toBuf, TRef.ofBuf, cast_eq, List.flatten_cons, List.flatten_nil, List.append_nil, List.cons_append, List.nil_append]
  after_results_simp <;> rfl

end Cert.Proof.RefHost

end
-- ==== Proof.RefRows.lean ====
/-
  WHAT THE REFERENCE COMPUTES (hand-written, untrusted): the reference's host values of Proof/RefHost.lean, entry by entry, as the row
  functions of Proof/Row.lean, at the ideal instance.
-/
module

public import proofs.«01_k».proof.Proof.RefHost
public import proofs.«01_k».proof.Proof.Row
public import Idealize.ShloMosaic.Lib.Pointwise

@[expose] public section

set_option maxRecDepth 16384

noncomputable section

namespace Cert.Proof.RefRows

open Idealize.ShloMosaic Cert.ReferenceIdeal Cert.ReferenceIdeal.Gen Cert.Proof.Exponent Cert.Proof.RefHost

/-- A number on every row, read at a row. -/
theorem splat_apply (w : BitVec 32) (b : Fin 2) (s : Fin 1536) : splat (F := Ideal) w (ix3 b s 0) = Ideal.ofBits .f32 w := by
  pointwise [splat]

/-- The normalized activations, entry by entry. -/
theorem h_apply (x : FVec Ideal S2x1536x7168 .bf16) (g : FVec Ideal S7168 .bf16) (b : Fin 2) (s : Fin 1536) (k : Fin 7168) :
    refH x g (ix3 b s k) = Row.norm (fun k => x (ix3 b s k)) (fun k => g (ix1 k)) k := by
  unfold Row.norm Row.rms
  pointwise [refH, splat]

/-- The greatest magnitude of a row. -/
theorem max_apply (h : FVec Ideal S2x1536x7168 .f32) (b : Fin 2) (s : Fin 1536) :
    refMax h (ix3 b s 0) = Finset.univ.fold max (Ideal.ofBits .f32 0xFF800000#32) fun k : Fin 7168 => max (h (ix3 b s k)) (-h (ix3 b s k)) := by
  pointwise [refMax]
  rfl

/-- The exponent of a row. -/
theorem e_apply (a : FVec Ideal S2x1536x1 .f32) (b : Fin 2) (s : Fin 1536) :
    refE a (ix3 b s 0) = expoR (a (ix3 b s 0)) (a (ix3 b s 0) * Ideal.ofBits .f32 0x37924925#32) := by
  unfold expoR
  rw [← Ideal.ofBits_zero_f32]
  pointwise [refE, splat]

/-- The scale of a row. -/
theorem scale_apply (e : FVec Ideal S2x1536x1 .f32) (b : Fin 2) (s : Fin 1536) :
    refScale e (ix3 b s 0) = Ideal.pow (Ideal.ofBits .f32 0x40000000#32) (e (ix3 b s 0)) := by
  pointwise [refScale, splat]

/-- The code of an entry. -/
theorem codes_apply (h : FVec Ideal S2x1536x7168 .f32) (e : FVec Ideal S2x1536x1 .f32) (b : Fin 2) (s : Fin 1536) (k : Fin 7168) :
    refCodes h e (ix3 b s k)
      = Row.clamp (h (ix3 b s k) * Ideal.pow (Ideal.ofBits .f32 0x40000000#32) (-e (ix3 b s 0))) := by
  unfold Row.clamp
  pointwise [refCodes, splat]
  rw [min_comm, max_comm]

end Cert.Proof.RefRows

end
-- ==== Proof.RefValues.lean ====
/-
  WHAT THE REFERENCE RETURNS (hand-written, untrusted): each of its three results, entry by entry, as the row functions of the
  arguments, at the ideal instance.
-/
module

public import proofs.«01_k».proof.Proof.RefArrays
public import proofs.«01_k».proof.Proof.RefRows
public import proofs.«01_k».proof.Proof.Reshape

@[expose] public section

set_option maxRecDepth 16384

noncomputable section

namespace Cert.Proof.RefValues

open Idealize.ShloMosaic Idealize.ShloMosaic.TcCoe Idealize.SL.Sem Cert.ReferenceIdeal Cert.ReferenceIdeal.Gen
open Cert.Proof.RefHost Cert.Proof.Reshape

variable (m : (ℓ : Loc nD τ sig) → Buf (Elt Ideal) ℓ)

/-- A row of the activations. -/
abbrev argX (c : Dev nD) (b : Fin 2) (s : Fin 1536) : Fin 7168 → EReal :=
  fun k => (m ((c.tc : Thread nD τ).loc main_arg0) : S2x1536x7168.Idx → EReal) (ix3 b s k)

/-- The weights of the normalization. -/
abbrev argG (c : Dev nD) : Fin 7168 → EReal :=
  fun k => (m ((c.tc : Thread nD τ).loc main_arg1) : S7168.Idx → EReal) (ix1 k)

/-- A row of the product's weights. -/
abbrev argW (c : Dev nD) (n : Fin 18432) : Fin 7168 → EReal :=
  fun k => (m ((c.tc : Thread nD τ).loc main_arg2) : S18432x7168.Idx → EReal) (ix2 n k)

/-- The scale of a row of the product's weights. -/
abbrev argS (c : Dev nD) (n : Fin 18432) : EReal :=
  (m ((c.tc : Thread nD τ).loc main_arg3) : S18432.Idx → EReal) (ix1 n)

/-- The normalized activations of the launched arguments. -/
abbrev argH (c : Dev nD) : FVec Ideal S2x1536x7168 .f32 :=
  refH (m ((c.tc : Thread nD τ).loc main_arg0)) (m ((c.tc : Thread nD τ).loc main_arg1))

theorem max_row (c : Dev nD) (b : Fin 2) (s : Fin 1536) :
    refMax (argH m c) (ix3 b s 0) = Row.amax (argX m c b s) (argG m c) := by
  rw [RefRows.max_apply]
  unfold Row.amax
  refine congrArg (fun f => Finset.univ.fold max _ f) (funext fun k => ?_)
  unfold argH
  rw [RefRows.h_apply]

theorem e_row (c : Dev nD) (b : Fin 2) (s : Fin 1536) :
    argE m c (ix3 b s 0)
      = Exponent.expoR (Row.amax (argX m c b s) (argG m c)) (Row.unit (argX m c b s) (argG m c)) := by
  unfold argE
  rw [RefRows.e_apply]
  erw [max_row]
  rfl

/-- The reference's scales. -/
theorem scale_apply (c : Dev nD) (b : Fin 2) (s : Fin 1536) :
    refScale (argE m c) (ix3 b s 0)
      = Exponent.scaleR (Row.amax (argX m c b s) (argG m c)) (Row.unit (argX m c b s) (argG m c)) := by
  rw [RefRows.scale_apply, e_row]
  rfl

theorem codes_host (c : Dev nD) (b : Fin 2) (s : Fin 1536) (k : Fin 7168) :
    refCodes (argH m c) (argE m c) (ix3 b s k) = Row.codeR (argX m c b s) (argG m c) k := by
  rw [RefRows.codes_apply, e_row]
  unfold argH
  rw [RefRows.h_apply]
  rfl

/-- The codes the product reads, by flat row. -/
theorem codes_row (c : Dev nD) (b : Fin 2) (s : Fin 1536) (k : Fin 7168) :
    (V m c main_v42 : S3072x7168.Idx → EReal) (ix2 (row b s) k) = Row.codeR (argX m c b s) (argG m c) k := by
  rw [entry_codes]
  exact (flat_apply _ _ b s k).trans (codes_host m c b s k)

/-- The reference's codes. -/
theorem codes_apply (c : Dev nD) (b : Fin 2) (s : Fin 1536) (k : Fin 7168) :
    (shapeCast _ (Value.reg_main_v45_1 m c) shapeCasts_S3072x7168_S2x1536x7168 : S2x1536x7168.Idx → EReal) (ix3 b s k)
      = Row.codeR (argX m c b s) (argG m c) k :=
  (batch_apply _ _ b s k).trans ((RefArrays.codes_arr m c (row b s) k).trans (codes_row m c b s k))

/-- The reference's product. -/
theorem y_apply (c : Dev nD) (b : Fin 2) (s : Fin 1536) (n : Fin 18432) :
    (shapeCast _ (Value.reg_main_v45_0 m c) shapeCasts_S3072x18432_S2x1536x18432 : S2x1536x18432.Idx → EReal) (ix3 b s n)
      = Dot.entry (fun k => Row.codeR (argX m c b s) (argG m c) k) (argW m c n)
          (Exponent.scaleR (Row.amax (argX m c b s) (argG m c)) (Row.unit (argX m c b s) (argG m c))) (argS m c n) := by
  refine (batch_apply _ _ b s n).trans ((RefArrays.y_arr m c (row b s) n).trans ?_)
  refine congr (congr (congr (congrArg Dot.entry (funext fun k => codes_row m c b s k)) (funext fun k => ?_)) ?_) ?_
  · rw [V_main_arg2]
  · rw [entry_scale]
    exact (flat_apply _ _ b s 0).trans (scale_apply m c b s)
  · rw [entry_ws]
    exact line_apply _ _ n

end Cert.Proof.RefValues

end
-- ==== Proof.Equation.lean ====
/-
  THE EQUATION (hand-written, untrusted): at the ideal instance and for weights of the normalization in the range of finite bf16
  numbers, the kernel's three results are the reference's.
-/
module

public import proofs.«01_k».proof.Proof.KernelValues
public import proofs.«01_k».proof.Proof.RefValues
public import proofs.«01_k».proof.Proof.Gen.Pre_finite_gamma

@[expose] public section

set_option maxRecDepth 16384

noncomputable section

namespace Cert.Proof.Equation

open Idealize.ShloMosaic Idealize.ShloMosaic.TcCoe Idealize.SL.Sem

/-- The precondition, read at an entry: the weight of the normalization is at most the largest finite bf16 number in magnitude. -/
theorem gamma_le [Cert.Pre_finite_gamma.Facts] (x : FVec Ideal Cert.Pre_finite_gamma.S2x1536x7168 .bf16)
    (g : FVec Ideal Cert.Pre_finite_gamma.S7168 .bf16) (w : FVec Ideal Cert.Pre_finite_gamma.S18432x7168 .fp8e4m3)
    (ws : FVec Ideal Cert.Pre_finite_gamma.S18432 .f32)
    (h : Cert.Pre_finite_gamma.fn (F := Ideal) x g w ws = fun _ => 1#1) (k : Fin 7168) :
    max (g (ix1 k)) (-g (ix1 k)) ≤ Ideal.ofBits .f32 0x7F7F0000#32 := by
  have e := congrFun h (ix1 k)
  unfold Cert.Pre_finite_gamma.fn at e
  have e' : BitVec.ofBool (decide (max (g (ix1 k)) (-g (ix1 k)) ≤ Ideal.ofBits .f32 0x7F7F0000#32)) = 1#1 := e
  by_contra hn
  rw [decide_eq_false hn] at e'
  exact absurd e' (by decide)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two programs are launched on the same arguments. -/
structure Same (c : Dev Cert.KernelIdeal.nD) : Prop where
  x : ∀ b s, RefValues.argX m' c b s = KernelValues.argX m c b s
  g : RefValues.argG m' c = KernelValues.argG m c
  w : ∀ n, RefValues.argW m' c n = KernelValues.argW m c n
  s : ∀ n, RefValues.argS m' c n = KernelValues.argS m c n
  le : ∀ k, max (KernelValues.argG m c k) (-KernelValues.argG m c k) ≤ Ideal.ofBits .f32 0x7F7F0000#32

/-- The codes of a row. -/
theorem codes_at (c : Dev Cert.KernelIdeal.nD) (h : Same m m' c) (b : Fin 2) (s : Fin 1536) (k : Fin 7168) :
    Row.codeR (RefValues.argX m' c b s) (RefValues.argG m' c) k = Row.codeK (KernelValues.argX m c b s) (KernelValues.argG m c) k := by
  rw [h.x b s, h.g]
  exact (Row.code_row _ _ h.le k).symm

/-- The scale of a row. -/
theorem scale_at (c : Dev Cert.KernelIdeal.nD) (h : Same m m' c) (b : Fin 2) (s : Fin 1536) :
    Exponent.scaleR (Row.amax (RefValues.argX m' c b s) (RefValues.argG m' c)) (Row.unit (RefValues.argX m' c b s) (RefValues.argG m' c))
      = Exponent.scaleK (Row.unit (KernelValues.argX m c b s) (KernelValues.argG m c)) := by
  rw [h.x b s, h.g]
  exact (Row.scale_row _ _ h.le).symm

/-- An entry of the product. -/
theorem y_at (c : Dev Cert.KernelIdeal.nD) (h : Same m m' c) (b : Fin 2) (s : Fin 1536) (n : Fin 18432) :
    Dot.entry (fun k => Row.codeR (RefValues.argX m' c b s) (RefValues.argG m' c) k) (RefValues.argW m' c n)
        (Exponent.scaleR (Row.amax (RefValues.argX m' c b s) (RefValues.argG m' c)) (Row.unit (RefValues.argX m' c b s) (RefValues.argG m' c)))
        (RefValues.argS m' c n)
      = Dot.entry (fun k => Row.codeK (KernelValues.argX m c b s) (KernelValues.argG m c) k) (KernelValues.argW m c n)
          (Exponent.scaleK (Row.unit (KernelValues.argX m c b s) (KernelValues.argG m c))) (KernelValues.argS m c n) :=
  congr (congr (congr (congrArg Dot.entry (funext fun k => codes_at m m' c h b s k)) (h.w n)) (scale_at m m' c h b s)) (h.s n)

/-- The codes. -/
theorem codes_eq (c : Dev Cert.KernelIdeal.nD) (h : Same m m' c) :
    (shapeCast _ (Cert.ReferenceIdeal.Value.reg_main_v45_1 m' c) Cert.ReferenceIdeal.Gen.facts.shapeCasts_S3072x7168_S2x1536x7168
      : Cert.ReferenceIdeal.S2x1536x7168.Idx → EReal)
      = Cert.KernelIdeal.Gen.W5 m ρ c (Proc.devRef .tc Cert.KernelIdeal.main_v6) := by
  funext i
  rw [eq_ix3 i]
  exact (RefValues.codes_apply m' c (i 0) (i 1) (i 2)).trans
    ((codes_at m m' c h (i 0) (i 1) (i 2)).trans (KernelValues.codes_apply m ρ c (i 0) (i 1) (i 2)).symm)

/-- The product. -/
theorem y_eq (c : Dev Cert.KernelIdeal.nD) (h : Same m m' c) :
    (shapeCast _ (Cert.ReferenceIdeal.Value.reg_main_v45_0 m' c) Cert.ReferenceIdeal.Gen.facts.shapeCasts_S3072x18432_S2x1536x18432
      : Cert.ReferenceIdeal.S2x1536x18432.Idx → EReal)
      = Cert.KernelIdeal.Gen.W5 m ρ c (Proc.devRef .tc Cert.KernelIdeal.main_v5) := by
  funext i
  rw [eq_ix3 i]
  exact (RefValues.y_apply m' c (i 0) (i 1) (i 2)).trans
    ((y_at m m' c h (i 0) (i 1) (i 2)).trans (KernelValues.y_apply m ρ c (i 0) (i 1) (i 2)).symm)

/-- The scales. -/
theorem scale_eq (c : Dev Cert.KernelIdeal.nD) (h : Same m m' c) :
    (RefHost.refScale (RefHost.argE m' c) : Cert.ReferenceIdeal.S2x1536x1.Idx → EReal)
      = Cert.KernelIdeal.Gen.W5 m ρ c (Proc.devRef .tc Cert.KernelIdeal.main_v8) := by
  funext i
  have hi : i = ix3 (n0 := 2) (n1 := 1536) (n2 := 1) (i 0) (i 1) 0 :=
    (eq_ix3 i).trans (congrArg (ix3 (i 0) (i 1)) (Subsingleton.elim (α := Fin 1) _ _))
  rw [hi]
  exact (RefValues.scale_apply m' c (i 0) (i 1)).trans
    ((scale_at m m' c h (i 0) (i 1)).trans (KernelValues.scale_apply m ρ c (i 0) (i 1)).symm)

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.Pre_finite_gamma
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The value claim: the kernel's three results are the reference's. -/
theorem algebraic : Cert.algebraic_KernelIdeal_ReferenceIdeal_pre_finite_gamma := by
  intro m g m' g' hpre hsame
  have same : ∀ c : Dev Cert.KernelIdeal.nD, Equation.Same m m' c := fun c =>
    { x := fun b s => funext fun k => congrFun (hsame c).1 (ix3 b s k)
      g := funext fun k => congrFun (hsame c).2.1 (ix1 k)
      w := fun n => funext fun k => congrFun (hsame c).2.2.1 (ix2 n k)
      s := fun n => congrFun (hsame c).2.2.2 (ix1 n)
      le := fun k => Equation.gamma_le _ _ _ _ (hpre c) k }
  refine ⟨fun c => Cert.KernelIdeal.Gen.W5 m g c (Proc.devRef .tc Cert.KernelIdeal.main_v5),
    fun c => Cert.KernelIdeal.Gen.W5 m g c (Proc.devRef .tc Cert.KernelIdeal.main_v6),
    fun c => Cert.KernelIdeal.Gen.W5 m g c (Proc.devRef .tc Cert.KernelIdeal.main_v8), ?_, ?_⟩
  · exact KernelRun.run m g
  · exact (θ_run Cert.ReferenceIdeal.defs _ _).mono (fun _ h c =>
      ⟨(h c).1.trans (Equation.y_eq m g m' c (same c)),
       (h c).2.1.trans (Equation.codes_eq m g m' c (same c)),
       (h c).2.2.1.trans (Equation.scale_eq m g m' c (same c)),
       (h c).2.2.2⟩) (Cert.ReferenceIdeal.Value.run m' g')

theorem claim : Cert.Claim := ⟨Cert.Kernel.Gen.facts, Cert.KernelIdeal.Gen.facts, Cert.ReferenceIdeal.Gen.facts, Cert.Pre_finite_gamma.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
